-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S2000x512 : Shape := ⟨2, ![2000, 512]⟩
abbrev S8x1024x512 : Shape := ⟨3, ![8, 1024, 512]⟩
abbrev S512x512 : Shape := ⟨2, ![512, 512]⟩
abbrev S512 : Shape := ⟨1, ![512]⟩
abbrev S_ : Shape := ⟨0, ![]⟩

class Facts : Prop where
  bcast_S_S2000x512 : S_.BroadcastsInDim S2000x512 (![] : Fin 0 → Fin S2000x512.rank)
  reducesTo_S2000x512_S_d0_1 : S2000x512.ReducesTo [0, 1] S_
  h_S_ : 0 < S_.numel
  bcast_S_S8x1024x512 : S_.BroadcastsInDim S8x1024x512 (![] : Fin 0 → Fin S8x1024x512.rank)
  reducesTo_S8x1024x512_S_d0_1_2 : S8x1024x512.ReducesTo [0, 1, 2] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part2 {F : FTy → Type} [FloatOps F] (main_arg7 : FVec F S512 .f32) (main_arg8 : FVec F S512x512 .f32) (main_arg10 : FVec F S512x512 .f32) (main_v29 : IVec S_ 1) (main_v32 : IVec S512x512 1) (main_c_12 : IVec S_ 1) : IVec S_ 1 :=
  let main_v33 : IVec S_ 1 := (fun x v => Host.reduce IntOp.andi x v reducesTo_S512x512_S_d0_1 h_S_) main_v32 main_c_12
  let main_v34 : IVec S_ 1 := andi main_v29 main_v33
  let main_v35 : FVec F S512 .f32 := Host.absf main_arg7
  let main_cst_13 : FVec F S_ .f32 := constant S_ .f32 0x7F800000#32
  let main_v36 : FVec F S512 .f32 := broadcastInDim S512 ![] bcast_S_S512 main_cst_13
  let main_v37 : IVec S512 1 := cmpf .olt main_v35 main_v36
  let main_c_14 : IVec S_ 1 := constantI S_ 1 1#1
  let main_v38 : IVec S_ 1 := (fun x v => Host.reduce IntOp.andi x v reducesTo_S512_S_d0 h_S_) main_v37 main_c_14
  let main_v39 : IVec S_ 1 := andi main_v34 main_v38
  let main_v40 : FVec F S512x512 .f32 := Host.absf main_arg8
  let main_cst_15 : FVec F S_ .f32 := constant S_ .f32 0x7F800000#32
  let main_v41 : FVec F S512x512 .f32 := broadcastInDim S512x512 ![] bcast_S_S512x512 main_cst_15
  let main_v42 : IVec S512x512 1 := cmpf .olt main_v40 main_v41
  let main_c_16 : IVec S_ 1 := constantI S_ 1 1#1
  let main_v43 : IVec S_ 1 := (fun x v => Host.reduce IntOp.andi x v reducesTo_S512x512_S_d0_1 h_S_) main_v42 main_c_16
  let main_v44 : IVec S_ 1 := andi main_v39 main_v43
  let main_v45 : FVec F S512x512 .f32 := Host.absf main_arg10
  let main_cst_17 : FVec F S_ .f32 := constant S_ .f32 0x7F800000#32
  let main_v46 : FVec F S512x512 .f32 := broadcastInDim S512x512 ![] bcast_S_S512x512 main_cst_17
  let main_v47 : IVec S512x512 1 := cmpf .olt main_v45 main_v46
  let main_c_18 : IVec S_ 1 := constantI S_ 1 1#1
  let main_v48 : IVec S_ 1 := (fun x v => Host.reduce IntOp.andi x v reducesTo_S512x512_S_d0_1 h_S_) main_v47 main_c_18
  let main_v49 : IVec S_ 1 := andi main_v44 main_v48
  main_v49

def fn_part1 {F : FTy → Type} [FloatOps F] (main_arg4 : FVec F S512x512 .f32) (main_arg5 : FVec F S512 .f32) (main_arg6 : FVec F S512x512 .f32) (main_arg7 : FVec F S512 .f32) (main_arg8 : FVec F S512x512 .f32) (main_arg10 : FVec F S512x512 .f32) (main_v14 : IVec S_ 1) (main_v15 : FVec F S512 .f32) (main_cst_5 : FVec F S_ .f32) : IVec S_ 1 :=
  let main_v16 : FVec F S512 .f32 := broadcastInDim S512 ![] bcast_S_S512 main_cst_5
  let main_v17 : IVec S512 1 := cmpf .olt main_v15 main_v16
  let main_c_6 : IVec S_ 1 := constantI S_ 1 1#1
  let main_v18 : IVec S_ 1 := (fun x v => Host.reduce IntOp.andi x v reducesTo_S512_S_d0 h_S_) main_v17 main_c_6
  let main_v19 : IVec S_ 1 := andi main_v14 main_v18
  let main_v20 : FVec F S512x512 .f32 := Host.absf main_arg4
  let main_cst_7 : FVec F S_ .f32 := constant S_ .f32 0x7F800000#32
  let main_v21 : FVec F S512x512 .f32 := broadcastInDim S512x512 ![] bcast_S_S512x512 main_cst_7
  let main_v22 : IVec S512x512 1 := cmpf .olt main_v20 main_v21
  let main_c_8 : IVec S_ 1 := constantI S_ 1 1#1
  let main_v23 : IVec S_ 1 := (fun x v => Host.reduce IntOp.andi x v reducesTo_S512x512_S_d0_1 h_S_) main_v22 main_c_8
  let main_v24 : IVec S_ 1 := andi main_v19 main_v23
  let main_v25 : FVec F S512 .f32 := Host.absf main_arg5
  let main_cst_9 : FVec F S_ .f32 := constant S_ .f32 0x7F800000#32
  let main_v26 : FVec F S512 .f32 := broadcastInDim S512 ![] bcast_S_S512 main_cst_9
  let main_v27 : IVec S512 1 := cmpf .olt main_v25 main_v26
  let main_c_10 : IVec S_ 1 := constantI S_ 1 1#1
  let main_v28 : IVec S_ 1 := (fun x v => Host.reduce IntOp.andi x v reducesTo_S512_S_d0 h_S_) main_v27 main_c_10
  let main_v29 : IVec S_ 1 := andi main_v24 main_v28
  let main_v30 : FVec F S512x512 .f32 := Host.absf main_arg6
  let main_cst_11 : FVec F S_ .f32 := constant S_ .f32 0x7F800000#32
  let main_v31 : FVec F S512x512 .f32 := broadcastInDim S512x512 ![] bcast_S_S512x512 main_cst_11
  let main_v32 : IVec S512x512 1 := cmpf .olt main_v30 main_v31
  let main_c_12 : IVec S_ 1 := constantI S_ 1 1#1
  fn_part2 (F := F) main_arg7 main_arg8 main_arg10 main_v29 main_v32 main_c_12

def fn {F : FTy → Type} [FloatOps F] (main_arg0 : FVec F S2000x512 .f32) (main_arg1 : FVec F S8x1024x512 .f32) (main_arg2 : FVec F S512x512 .f32) (main_arg3 : FVec F S512 .f32) (main_arg4 : FVec F S512x512 .f32) (main_arg5 : FVec F S512 .f32) (main_arg6 : FVec F S512x512 .f32) (main_arg7 : FVec F S512 .f32) (main_arg8 : FVec F S512x512 .f32) (main_arg9 : FVec F S512 .f32) (main_arg10 : FVec F S512x512 .f32) (main_arg11 : FVec F S512 .f32) (main_arg12 : FVec F S512 .f32) (main_arg13 : FVec F S512 .f32) : IVec S_ 1 :=
  let main_v0 : FVec F S2000x512 .f32 := Host.absf main_arg0
  let main_cst : FVec F S_ .f32 := constant S_ .f32 0x7F800000#32
  let main_v1 : FVec F S2000x512 .f32 := broadcastInDim S2000x512 ![] bcast_S_S2000x512 main_cst
  let main_v2 : IVec S2000x512 1 := cmpf .olt main_v0 main_v1
  let main_c : IVec S_ 1 := constantI S_ 1 1#1
  let main_v3 : IVec S_ 1 := (fun x v => Host.reduce IntOp.andi x v reducesTo_S2000x512_S_d0_1 h_S_) main_v2 main_c
  let main_c_0 : IVec S_ 1 := constantI S_ 1 1#1
  let main_v4 : IVec S_ 1 := andi main_c_0 main_v3
  let main_v5 : FVec F S8x1024x512 .f32 := Host.absf main_arg1
  let main_cst_1 : FVec F S_ .f32 := constant S_ .f32 0x7F800000#32
  let main_v6 : FVec F S8x1024x512 .f32 := broadcastInDim S8x1024x512 ![] bcast_S_S8x1024x512 main_cst_1
  let main_v7 : IVec S8x1024x512 1 := cmpf .olt main_v5 main_v6
  let main_c_2 : IVec S_ 1 := constantI S_ 1 1#1
  let main_v8 : IVec S_ 1 := (fun x v => Host.reduce IntOp.andi x v reducesTo_S8x1024x512_S_d0_1_2 h_S_) main_v7 main_c_2
  let main_v9 : IVec S_ 1 := andi main_v4 main_v8
  let main_v10 : FVec F S512x512 .f32 := Host.absf main_arg2
  let main_cst_3 : FVec F S_ .f32 := constant S_ .f32 0x7F800000#32
  let main_v11 : FVec F S512x512 .f32 := broadcastInDim S512x512 ![] bcast_S_S512x512 main_cst_3
  let main_v12 : IVec S512x512 1 := cmpf .olt main_v10 main_v11
  let main_c_4 : IVec S_ 1 := constantI S_ 1 1#1
  let main_v13 : IVec S_ 1 := (fun x v => Host.reduce IntOp.andi x v reducesTo_S512x512_S_d0_1 h_S_) main_v12 main_c_4
  let main_v14 : IVec S_ 1 := andi main_v9 main_v13
  let main_v15 : FVec F S512 .f32 := Host.absf main_arg3
  let main_cst_5 : FVec F S_ .f32 := constant S_ .f32 0x7F800000#32
  fn_part1 (F := F) main_arg4 main_arg5 main_arg6 main_arg7 main_arg8 main_arg10 main_v14 main_v15 main_cst_5
-- ==== Kernel.lean ====
abbrev S2000x512 : Shape := ⟨2, ![2000, 512]⟩
abbrev S8x1024x512 : Shape := ⟨3, ![8, 1024, 512]⟩
abbrev S512x512 : Shape := ⟨2, ![512, 512]⟩
abbrev S512 : Shape := ⟨1, ![512]⟩
abbrev S_ : Shape := ⟨0, ![]⟩
abbrev S2048x512 : Shape := ⟨2, ![2048, 512]⟩
abbrev S1x1024x512 : Shape := ⟨3, ![1, 1024, 512]⟩
abbrev S1024x512 : Shape := ⟨2, ![1024, 512]⟩
abbrev S1x512 : Shape := ⟨2, ![1, 512]⟩
abbrev S128x512 : Shape := ⟨2, ![128, 512]⟩
abbrev S128x2048 : Shape := ⟨2, ![128, 2048]⟩
abbrev S1x2048 : Shape := ⟨2, ![1, 2048]⟩
abbrev S2048x128 : Shape := ⟨2, ![2048, 128]⟩
abbrev S128x128 : Shape := ⟨2, ![128, 128]⟩
abbrev S128 : Shape := ⟨1, ![128]⟩
abbrev S128x1 : Shape := ⟨2, ![128, 1]⟩
abbrev S2048 : Shape := ⟨1, ![2048]⟩
abbrev S1 : Shape := ⟨1, ![1]⟩
abbrev S1x1 : Shape := ⟨2, ![1, 1]⟩
abbrev S1x128 : Shape := ⟨2, ![1, 128]⟩
abbrev S1024x128 : Shape := ⟨2, ![1024, 128]⟩
abbrev S1024 : Shape := ⟨1, ![1024]⟩
abbrev S1024x1 : Shape := ⟨2, ![1024, 1]⟩

abbrev nBuf : Space → Nat
  | .hbm => 37
  | .vmem => 33
  | .smem => 0
  | _ => 0

abbrev bufTy : (tb : Table) → Fin (tcTables nBuf tb) → BufTy
  | .hbm, ⟨0, _⟩ => ⟨S2000x512, .f32⟩
  | .hbm, ⟨1, _⟩ => ⟨S8x1024x512, .f32⟩
  | .hbm, ⟨2, _⟩ => ⟨S512x512, .f32⟩
  | .hbm, ⟨3, _⟩ => ⟨S512, .f32⟩
  | .hbm, ⟨4, _⟩ => ⟨S512x512, .f32⟩
  | .hbm, ⟨5, _⟩ => ⟨S512, .f32⟩
  | .hbm, ⟨6, _⟩ => ⟨S512x512, .f32⟩
  | .hbm, ⟨7, _⟩ => ⟨S512, .f32⟩
  | .hbm, ⟨8, _⟩ => ⟨S512x512, .f32⟩
  | .hbm, ⟨9, _⟩ => ⟨S512, .f32⟩
  | .hbm, ⟨10, _⟩ => ⟨S512x512, .f32⟩
  | .hbm, ⟨11, _⟩ => ⟨S512, .f32⟩
  | .hbm, ⟨12, _⟩ => ⟨S512, .f32⟩
  | .hbm, ⟨13, _⟩ => ⟨S512, .f32⟩
  | .hbm, ⟨14, _⟩ => ⟨S_, .i32⟩
  | .hbm, ⟨15, _⟩ => ⟨S_, .f32⟩
  | .hbm, ⟨16, _⟩ => ⟨S2048x512, .f32⟩
  | .hbm, ⟨17, _⟩ => ⟨S512x512, .f32⟩
  | .hbm, ⟨18, _⟩ => ⟨S512x512, .f32⟩
  | .hbm, ⟨19, _⟩ => ⟨S512x512, .f32⟩
  | .hbm, ⟨20, _⟩ => ⟨S512x512, .f32⟩
  | .hbm, ⟨21, _⟩ => ⟨S512x512, .f32⟩
  | .hbm, ⟨22, _⟩ => ⟨S1x1024x512, .f32⟩
  | .hbm, ⟨23, _⟩ => ⟨S1024x512, .f32⟩
  | .hbm, ⟨24, _⟩ => ⟨S1x512, .f32⟩
  | .hbm, ⟨25, _⟩ => ⟨S1x512, .f32⟩
  | .hbm, ⟨26, _⟩ => ⟨S1x512, .f32⟩
  | .hbm, ⟨27, _⟩ => ⟨S1x512, .f32⟩
  | .hbm, ⟨28, _⟩ => ⟨S1x512, .f32⟩
  | .hbm, ⟨29, _⟩ => ⟨S128x512, .f32⟩
  | .hbm, ⟨30, _⟩ => ⟨S128x512, .f32⟩
  | .hbm, ⟨31, _⟩ => ⟨S512x512, .f32⟩
  | .hbm, ⟨32, _⟩ => ⟨S1x512, .f32⟩
  | .hbm, ⟨33, _⟩ => ⟨S1x512, .f32⟩
  | .hbm, ⟨34, _⟩ => ⟨S1x512, .f32⟩
  | .hbm, ⟨35, _⟩ => ⟨S1x512, .f32⟩
  | .hbm, ⟨36, _⟩ => ⟨S8x1024x512, .f32⟩
  | .local _ .vmem, ⟨0, _⟩ => ⟨S2048x512, .f32⟩
  | .local _ .vmem, ⟨1, _⟩ => ⟨S1024x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S1x512, .f32⟩
  | .local _ .vmem, ⟨10, _⟩ => ⟨S1x512, .f32⟩
  | .local _ .vmem, ⟨11, _⟩ => ⟨S1x512, .f32⟩
  | .local _ .vmem, ⟨12, _⟩ => ⟨S128x512, .f32⟩
  | .local _ .vmem, ⟨13, _⟩ => ⟨S128x512, .f32⟩
  | .local _ .vmem, ⟨14, _⟩ => ⟨S512x512, .f32⟩
  | .local _ .vmem, ⟨15, _⟩ => ⟨S1x512, .f32⟩
  | .local _ .vmem, ⟨16, _⟩ => ⟨S1024x512, .f32⟩
  | .local _ .vmem, ⟨17, _⟩ => ⟨S2048x512, .f32⟩
  | .local _ .vmem, ⟨18, _⟩ => ⟨S128x2048, .f32⟩
  | .local _ .vmem, ⟨19, _⟩ => ⟨S1x1024x512, .f32⟩
  | .local _ .vmem, ⟨20, _⟩ => ⟨S1x1024x512, .f32⟩
  | .local _ .vmem, ⟨21, _⟩ => ⟨S512x512, .f32⟩
  | .local _ .vmem, ⟨22, _⟩ => ⟨S512x512, .f32⟩
  | .local _ .vmem, ⟨23, _⟩ => ⟨S128x512, .f32⟩
  | .local _ .vmem, ⟨24, _⟩ => ⟨S128x512, .f32⟩
  | .local _ .vmem, ⟨25, _⟩ => ⟨S1x512, .f32⟩
  | .local _ .vmem, ⟨26, _⟩ => ⟨S1x512, .f32⟩
  | .local _ .vmem, ⟨27, _⟩ => ⟨S1x512, .f32⟩
  | .local _ .vmem, ⟨28, _⟩ => ⟨S1x512, .f32⟩
  | .local _ .vmem, ⟨29, _⟩ => ⟨S1x1024x512, .f32⟩
  | .local _ .vmem, ⟨30, _⟩ => ⟨S1x1024x512, .f32⟩
  | .local _ .vmem, ⟨31, _⟩ => ⟨S1024x512, .f32⟩
  | .local _ .vmem, ⟨32, _⟩ => ⟨S1024x512, .f32⟩
  | _, _ => ⟨S2000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc1_stg0_0 : Ref sig .tc := ⟨.vmem, 19, rfl⟩
abbrev cc1_stg0_1 : Ref sig .tc := ⟨.vmem, 20, rfl⟩
abbrev cc1_stg1_0 : Ref sig .tc := ⟨.vmem, 21, rfl⟩
abbrev cc1_stg2_0 : Ref sig .tc := ⟨.vmem, 22, rfl⟩
abbrev cc1_stg3_0 : Ref sig .tc := ⟨.vmem, 23, rfl⟩
abbrev cc1_stg4_0 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg9_0 : Ref sig .tc := ⟨.vmem, 29, rfl⟩
abbrev cc1_stg9_1 : Ref sig .tc := ⟨.vmem, 30, rfl⟩
abbrev cc1_scratch0 : Ref sig .tc := ⟨.vmem, 31, rfl⟩
abbrev cc1_scratch1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem3_0 : DmaSem sig := 20
abbrev cc1_sem4_0 : DmaSem sig := 21
abbrev cc1_sem5_0 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem9_1 : DmaSem sig := 27

abbrev nD : Nat := 1
abbrev τ : Topo := Topo.v7x

variable {F : FTy → Type} [FloatOps F]

abbrev grid0 : Pipeline.Grid := .none

abbrev stage0_0 : Fin 1 → Memref sig .tc .vmem S2048x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S512x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S512x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S512x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x512 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x512 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x512 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x512 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x512 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x512 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x512 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S1x1024x512 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]
-- ==== KernelIdeal.lean ====
variable {F : FTy → Type} [FloatOps F] [Named F]
def κ : String → Option EReal := fun
  | "mask" => some ⊥
  | _ => none
-- ==== ReferenceIdeal.lean ====
abbrev S2000x512 : Shape := ⟨2, ![2000, 512]⟩
abbrev S8x1024x512 : Shape := ⟨3, ![8, 1024, 512]⟩
abbrev S512x512 : Shape := ⟨2, ![512, 512]⟩
abbrev S512 : Shape := ⟨1, ![512]⟩
abbrev S8x2000x512 : Shape := ⟨3, ![8, 2000, 512]⟩
abbrev S1x1x512 : Shape := ⟨3, ![1, 1, 512]⟩
abbrev S8x1024x4x128 : Shape := ⟨4, ![8, 1024, 4, 128]⟩
abbrev S8x4x1024x128 : Shape := ⟨4, ![8, 4, 1024, 128]⟩
abbrev S8x2000x4x128 : Shape := ⟨4, ![8, 2000, 4, 128]⟩
abbrev S8x4x2000x128 : Shape := ⟨4, ![8, 4, 2000, 128]⟩
abbrev S8x4x1024x2000 : Shape := ⟨4, ![8, 4, 1024, 2000]⟩
abbrev S_ : Shape := ⟨0, ![]⟩
abbrev S8x4x1024 : Shape := ⟨3, ![8, 4, 1024]⟩
abbrev S8x4x1024x1 : Shape := ⟨4, ![8, 4, 1024, 1]⟩
abbrev S1x4x1024x2000 : Shape := ⟨4, ![1, 4, 1024, 2000]⟩
abbrev S4x1024x2000 : Shape := ⟨3, ![4, 1024, 2000]⟩
abbrev S2000 : Shape := ⟨1, ![2000]⟩
abbrev S101 : Shape := ⟨1, ![101]⟩
abbrev S101x1 : Shape := ⟨2, ![101, 1]⟩
abbrev S8x101x512 : Shape := ⟨3, ![8, 101, 512]⟩
abbrev S8x101x4x128 : Shape := ⟨4, ![8, 101, 4, 128]⟩
abbrev S8x4x101x128 : Shape := ⟨4, ![8, 4, 101, 128]⟩
abbrev S8x4x1024x101 : Shape := ⟨4, ![8, 4, 1024, 101]⟩
abbrev S8x1024 : Shape := ⟨2, ![8, 1024]⟩
abbrev S8x1024x1 : Shape := ⟨3, ![8, 1024, 1]⟩

abbrev nBuf : Space → Nat
  | .hbm => 155
  | .vmem => 0
  | .smem => 0
  | _ => 0

abbrev hbmTy0_0 (i : Nat) : BufTy := match i % 128 with
  | 0 => ⟨S2000x512, .f32⟩
  | 1 => ⟨S8x1024x512, .f32⟩
  | 2 => ⟨S512x512, .f32⟩
  | 3 => ⟨S512, .f32⟩
  | 4 => ⟨S512x512, .f32⟩
  | 5 => ⟨S512, .f32⟩
  | 6 => ⟨S512x512, .f32⟩
  | 7 => ⟨S512, .f32⟩
  | 8 => ⟨S512x512, .f32⟩
  | 9 => ⟨S512, .f32⟩
  | 10 => ⟨S512x512, .f32⟩
  | 11 => ⟨S512, .f32⟩
  | 12 => ⟨S512, .f32⟩
  | 13 => ⟨S512, .f32⟩
  | 14 => ⟨S8x2000x512, .f32⟩
  | 15 => ⟨S512x512, .f32⟩
  | 16 => ⟨S8x1024x512, .f32⟩
  | 17 => ⟨S1x1x512, .f32⟩
  | 18 => ⟨S8x1024x512, .f32⟩
  | 19 => ⟨S8x1024x512, .f32⟩
  | 20 => ⟨S8x1024x4x128, .f32⟩
  | 21 => ⟨S8x4x1024x128, .f32⟩
  | 22 => ⟨S512x512, .f32⟩
  | 23 => ⟨S8x2000x512, .f32⟩
  | 24 => ⟨S1x1x512, .f32⟩
  | 25 => ⟨S8x2000x512, .f32⟩
  | 26 => ⟨S8x2000x512, .f32⟩
  | 27 => ⟨S8x2000x4x128, .f32⟩
  | 28 => ⟨S8x4x2000x128, .f32⟩
  | 29 => ⟨S8x4x1024x2000, .f32⟩
  | 30 => ⟨S_, .f32⟩
  | 31 => ⟨S8x4x1024x2000, .f32⟩
  | 32 => ⟨S8x4x1024x2000, .f32⟩
  | 33 => ⟨S_, .f32⟩
  | 34 => ⟨S8x4x1024, .f32⟩
  | 35 => ⟨S_, .f32⟩
  | 36 => ⟨S8x4x1024, .f32⟩
  | 37 => ⟨S8x4x1024, .f32⟩
  | 38 => ⟨S8x4x1024x1, .f32⟩
  | 39 => ⟨S8x4x1024x2000, .f32⟩
  | 40 => ⟨S8x4x1024x2000, .f32⟩
  | 41 => ⟨S8x4x1024x2000, .f32⟩
  | 42 => ⟨S_, .f32⟩
  | 43 => ⟨S8x4x1024, .f32⟩
  | 44 => ⟨S8x4x1024x1, .f32⟩
  | 45 => ⟨S8x4x1024x2000, .f32⟩
  | 46 => ⟨S8x4x1024x2000, .f32⟩
  | 47 => ⟨S1x4x1024x2000, .f32⟩
  | 48 => ⟨S4x1024x2000, .f32⟩
  | 49 => ⟨S_, .f32⟩
  | 50 => ⟨S2000, .f32⟩
  | 51 => ⟨S101, .f32⟩
  | 52 => ⟨S101, .i32⟩
  | 53 => ⟨S_, .i32⟩
  | 54 => ⟨S101, .i32⟩
  | 55 => ⟨S101, .i1⟩
  | 56 => ⟨S_, .i32⟩
  | 57 => ⟨S101, .i32⟩
  | 58 => ⟨S101, .i32⟩
  | 59 => ⟨S101, .i32⟩
  | 60 => ⟨S101x1, .i32⟩
  | 61 => ⟨S8x101x512, .f32⟩
  | 62 => ⟨S512x512, .f32⟩
  | 63 => ⟨S8x101x512, .f32⟩
  | 64 => ⟨S1x1x512, .f32⟩
  | 65 => ⟨S8x101x512, .f32⟩
  | 66 => ⟨S8x101x512, .f32⟩
  | 67 => ⟨S8x101x4x128, .f32⟩
  | 68 => ⟨S8x4x101x128, .f32⟩
  | 69 => ⟨S512x512, .f32⟩
  | 70 => ⟨S8x101x512, .f32⟩
  | 71 => ⟨S1x1x512, .f32⟩
  | 72 => ⟨S8x101x512, .f32⟩
  | 73 => ⟨S8x101x512, .f32⟩
  | 74 => ⟨S8x101x4x128, .f32⟩
  | 75 => ⟨S8x4x101x128, .f32⟩
  | 76 => ⟨S8x4x1024x101, .f32⟩
  | 77 => ⟨S_, .f32⟩
  | 78 => ⟨S8x4x1024x101, .f32⟩
  | 79 => ⟨S8x4x1024x101, .f32⟩
  | 80 => ⟨S_, .f32⟩
  | 81 => ⟨S8x4x1024, .f32⟩
  | 82 => ⟨S_, .f32⟩
  | 83 => ⟨S8x4x1024, .f32⟩
  | 84 => ⟨S8x4x1024, .f32⟩
  | 85 => ⟨S8x4x1024x1, .f32⟩
  | 86 => ⟨S8x4x1024x101, .f32⟩
  | 87 => ⟨S8x4x1024x101, .f32⟩
  | 88 => ⟨S8x4x1024x101, .f32⟩
  | 89 => ⟨S_, .f32⟩
  | 90 => ⟨S8x4x1024, .f32⟩
  | 91 => ⟨S8x4x1024x1, .f32⟩
  | 92 => ⟨S8x4x1024x101, .f32⟩
  | 93 => ⟨S8x4x1024x101, .f32⟩
  | 94 => ⟨S8x4x1024x128, .f32⟩
  | 95 => ⟨S8x1024x4x128, .f32⟩
  | 96 => ⟨S8x1024x512, .f32⟩
  | 97 => ⟨S512x512, .f32⟩
  | 98 => ⟨S8x1024x512, .f32⟩
  | 99 => ⟨S1x1x512, .f32⟩
  | 100 => ⟨S8x1024x512, .f32⟩
  | 101 => ⟨S8x1024x512, .f32⟩
  | 102 => ⟨S512x512, .f32⟩
  | 103 => ⟨S8x1024x512, .f32⟩
  | 104 => ⟨S1x1x512, .f32⟩
  | 105 => ⟨S8x1024x512, .f32⟩
  | 106 => ⟨S8x1024x512, .f32⟩
  | 107 => ⟨S_, .f32⟩
  | 108 => ⟨S8x1024x512, .f32⟩
  | 109 => ⟨S8x1024x512, .f32⟩
  | 110 => ⟨S8x1024x512, .f32⟩
  | 111 => ⟨S_, .f32⟩
  | 112 => ⟨S8x1024, .f32⟩
  | 113 => ⟨S8x1024x1, .f32⟩
  | 114 => ⟨S_, .f32⟩
  | 115 => ⟨S8x1024x1, .f32⟩
  | 116 => ⟨S8x1024x1, .f32⟩
  | 117 => ⟨S_, .i32⟩
  | 118 => ⟨S_, .f32⟩
  | 119 => ⟨S8x1024, .f32⟩
  | 120 => ⟨S8x1024x1, .f32⟩
  | 121 => ⟨S_, .f32⟩
  | 122 => ⟨S8x1024x1, .f32⟩
  | 123 => ⟨S8x1024x1, .f32⟩
  | 124 => ⟨S8x1024x512, .f32⟩
  | 125 => ⟨S8x1024x512, .f32⟩
  | 126 => ⟨S8x1024x512, .f32⟩
  | 127 => ⟨S_, .f32⟩
  | _ => ⟨S2000x512, .f32⟩

abbrev hbmTy0_1 (i : Nat) : BufTy := match i % 128 with
  | 0 => ⟨S_, .f32⟩
  | 1 => ⟨S_, .f32⟩
  | 2 => ⟨S_, .f32⟩
  | 3 => ⟨S8x1024, .f32⟩
  | 4 => ⟨S8x1024x1, .f32⟩
  | 5 => ⟨S8x1024x1, .f32⟩
  | 6 => ⟨S8x1024x1, .f32⟩
  | 7 => ⟨S_, .f32⟩
  | 8 => ⟨S_, .i1⟩
  | 9 => ⟨S_, .f32⟩
  | 10 => ⟨S_, .f32⟩
  | 11 => ⟨S8x1024x1, .f32⟩
  | 12 => ⟨S8x1024x1, .f32⟩
  | 13 => ⟨S8x1024x512, .f32⟩
  | 14 => ⟨S8x1024x512, .f32⟩
  | 15 => ⟨S_, .f32⟩
  | 16 => ⟨S8x1024x1, .f32⟩
  | 17 => ⟨S8x1024x1, .f32⟩
  | 18 => ⟨S8x1024x1, .f32⟩
  | 19 => ⟨S8x1024x512, .f32⟩
  | 20 => ⟨S8x1024x512, .f32⟩
  | 21 => ⟨S1x1x512, .f32⟩
  | 22 => ⟨S8x1024x512, .f32⟩
  | 23 => ⟨S8x1024x512, .f32⟩
  | 24 => ⟨S1x1x512, .f32⟩
  | 25 => ⟨S8x1024x512, .f32⟩
  | 26 => ⟨S8x1024x512, .f32⟩
  | _ => ⟨S2000x512, .f32⟩

abbrev hbmTy (i : Nat) : BufTy := match i / 128 with
  | 0 => hbmTy0_0 i
  | 1 => hbmTy0_1 i
  | _ => ⟨S2000x512, .f32⟩

abbrev bufTy : (tb : Table) → Fin (tcTables nBuf tb) → BufTy
  | .hbm, ⟨i, _⟩ => hbmTy i
  | _, _ => ⟨S2000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst : Ref sig .tc := ⟨.hbm, 30, rfl⟩
abbrev main_v16 : Ref sig .tc := ⟨.hbm, 31, rfl⟩
abbrev main_v17 : Ref sig .tc := ⟨.hbm, 32, rfl⟩
abbrev main_cst_0 : Ref sig .tc := ⟨.hbm, 33, rfl⟩
abbrev main_v18 : Ref sig .tc := ⟨.hbm, 34, rfl⟩
abbrev main_cst_1 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_cst_2 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_values : Ref sig .tc := ⟨.hbm, 51, rfl⟩
abbrev main_indices : Ref sig .tc := ⟨.hbm, 52, rfl⟩
abbrev main_c : Ref sig .tc := ⟨.hbm, 53, rfl⟩
abbrev main_v32 : Ref sig .tc := ⟨.hbm, 54, rfl⟩
abbrev main_v33 : Ref sig .tc := ⟨.hbm, 55, rfl⟩
abbrev main_c_4 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_cst_5 : Ref sig .tc := ⟨.hbm, 77, rfl⟩
abbrev main_v54 : Ref sig .tc := ⟨.hbm, 78, rfl⟩
abbrev main_v55 : Ref sig .tc := ⟨.hbm, 79, rfl⟩
abbrev main_cst_6 : Ref sig .tc := ⟨.hbm, 80, rfl⟩
abbrev main_v56 : Ref sig .tc := ⟨.hbm, 81, rfl⟩
abbrev main_cst_7 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_8 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_cst_9 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_cst_10 : Ref sig .tc := ⟨.hbm, 111, rfl⟩
abbrev main_v83 : Ref sig .tc := ⟨.hbm, 112, rfl⟩
abbrev main_v84 : Ref sig .tc := ⟨.hbm, 113, rfl⟩
abbrev main_cst_11 : Ref sig .tc := ⟨.hbm, 114, rfl⟩
abbrev main_v85 : Ref sig .tc := ⟨.hbm, 115, rfl⟩
abbrev main_v86 : Ref sig .tc := ⟨.hbm, 116, rfl⟩
abbrev main_c_12 : Ref sig .tc := ⟨.hbm, 117, rfl⟩
abbrev main_call0_cst : Ref sig .tc := ⟨.hbm, 118, rfl⟩
abbrev main_call0_v0 : Ref sig .tc := ⟨.hbm, 119, rfl⟩
abbrev main_call0_v1 : Ref sig .tc := ⟨.hbm, 120, rfl⟩
abbrev main_call0_cst_0 : Ref sig .tc := ⟨.hbm, 121, rfl⟩
abbrev main_call0_v2 : Ref sig .tc := ⟨.hbm, 122, rfl⟩
abbrev main_call0_v3 : Ref sig .tc := ⟨.hbm, 123, rfl⟩
abbrev main_call0_v4 : Ref sig .tc := ⟨.hbm, 124, rfl⟩
abbrev main_call0_v5 : Ref sig .tc := ⟨.hbm, 125, rfl⟩
abbrev main_call0_v6 : Ref sig .tc := ⟨.hbm, 126, rfl⟩
abbrev main_call0_v7 : Ref sig .tc := ⟨.hbm, 127, rfl⟩
abbrev main_call0_cst_1 : Ref sig .tc := ⟨.hbm, 128, rfl⟩
abbrev main_call0_v8 : Ref sig .tc := ⟨.hbm, 129, rfl⟩
abbrev main_call0_cst_2 : Ref sig .tc := ⟨.hbm, 130, rfl⟩
abbrev main_call0_v9 : Ref sig .tc := ⟨.hbm, 131, rfl⟩
abbrev main_call0_v10 : Ref sig .tc := ⟨.hbm, 132, rfl⟩
abbrev main_call0_v11 : Ref sig .tc := ⟨.hbm, 133, rfl⟩
abbrev main_call0_v12 : Ref sig .tc := ⟨.hbm, 134, rfl⟩
abbrev main_call0_cst_3 : Ref sig .tc := ⟨.hbm, 135, rfl⟩
abbrev main_call0_v13 : Ref sig .tc := ⟨.hbm, 136, rfl⟩
abbrev main_call0_cst_4 : Ref sig .tc := ⟨.hbm, 137, rfl⟩
abbrev main_call0_call0_v0 : Ref sig .tc := ⟨.hbm, 138, rfl⟩
abbrev main_call0_call0_v1 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_cst_13 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_v97 : Ref sig .tc := ⟨.hbm, 151, rfl⟩
abbrev main_v98 : Ref sig .tc := ⟨.hbm, 152, rfl⟩
abbrev main_v99 : Ref sig .tc := ⟨.hbm, 153, rfl⟩
abbrev main_v100 : Ref sig .tc := ⟨.hbm, 154, rfl⟩

abbrev nD : Nat := 1
abbrev τ : Topo := Topo.v7x

variable {F : FTy → Type} [FloatOps F]
-- ==== Proof.Pre.lean ====
/- What the precondition says of the arguments over the extended reals: the elements it asks about are real numbers. -/
module

public import proofs.«01_k».proof.Pre_finite_inputs
public import Idealize.ShloMosaic.Lib.ReduceAll
public import Idealize.ShloMosaic.Lib.Pointwise

@[expose] public section

set_option maxRecDepth 16384

noncomputable section

namespace Cert.Pre

open Idealize.ShloMosaic Cert.Pre_finite_inputs

/-- The shape facts the precondition's operations state. -/
theorem facts : Cert.Pre_finite_inputs.Facts where
  bcast_S_S2000x512 := by decide
  reducesTo_S2000x512_S_d0_1 := by decide
  h_S_ := by decide
  bcast_S_S8x1024x512 := by decide
  reducesTo_S8x1024x512_S_d0_1_2 := by decide
  bcast_S_S512x512 := by decide
  reducesTo_S512x512_S_d0_1 := by decide
  bcast_S_S512 := by decide
  reducesTo_S512_S_d0 := by decide

/-- `x` is a real number. -/
def IsReal (x : EReal) : Prop := ∃ r : ℝ, x = (r : EReal)

theorem isReal_of_abs_lt (x : EReal) (h : max x (-x) < ⊤) : IsReal x := by
  induction x with
  | bot => simp at h
  | top => simp at h
  | coe r => exact ⟨r, rfl⟩

instance : Subsingleton S_.Idx := ⟨fun a b => funext fun i => i.elim0⟩

/-- If every element's absolute value compares below infinity, every element is real. -/
theorem isReal_of_all {s : Shape} {axes : List (Fin s.rank)} (x : FVec Ideal s .f32) (hb : S_.BroadcastsInDim s ![]) (hr : s.ReducesTo axes S_)
    (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : IsReal (x i) := by
  have h := Host.reduce_andi_all _ _ hr hu j e i
  have hb' : broadcastInDim s ![] hb (constant (F := Ideal) S_ .f32 0x7F800000#32) i = (⊤ : EReal) := by
    show Ideal.ofBits .f32 0x7F800000#32 = ⊤
    simp [Ideal.ofBits, Ideal.ieee]
  have h2 : Ideal.cmp .olt (max (x i) (-(x i))) (⊤ : EReal) = 1#1 := by
    rw [← h, ← hb']; rfl
  refine isReal_of_abs_lt _ ?_
  by_contra hc
  rw [Ideal.cmp] at h2
  simp [hc] at h2

/-- The precondition makes the context, the encoder output, the projections and the two output matrices real. -/
theorem real_of_pre [Cert.Pre_finite_inputs.Facts] (A0 : FVec Ideal S2000x512 .f32) (A1 : FVec Ideal S8x1024x512 .f32) (A2 : FVec Ideal S512x512 .f32)
    (A3 : FVec Ideal S512 .f32) (A4 : FVec Ideal S512x512 .f32) (A5 : FVec Ideal S512 .f32) (A6 : FVec Ideal S512x512 .f32)
    (A7 : FVec Ideal S512 .f32) (A8 : FVec Ideal S512x512 .f32) (A9 : FVec Ideal S512 .f32) (A10 : FVec Ideal S512x512 .f32)
    (A11 A12 A13 : FVec Ideal S512 .f32)
    (h : Cert.Pre_finite_inputs.fn (F := Ideal) A0 A1 A2 A3 A4 A5 A6 A7 A8 A9 A10 A11 A12 A13 = fun _ => 1#1) :
    (∀ i, IsReal (A0 i)) ∧ (∀ i, IsReal (A1 i)) ∧ (∀ i, IsReal (A2 i)) ∧ (∀ i, IsReal (A3 i)) ∧ (∀ i, IsReal (A4 i))
      ∧ (∀ i, IsReal (A5 i)) ∧ (∀ i, IsReal (A6 i)) ∧ (∀ i, IsReal (A7 i)) ∧ (∀ i, IsReal (A8 i)) ∧ ∀ i, IsReal (A10 i) := by
  have h := congrFun h ix0
  simp only [Cert.Pre_finite_inputs.fn, fn_part1, fn_part2, andi, IntOp.andi_eq_one] at h
  obtain ⟨⟨⟨⟨⟨⟨⟨⟨⟨⟨-, h0⟩, h1⟩, h2⟩, h3⟩, h4⟩, h5⟩, h6⟩, h7⟩, h8⟩, h10⟩ := h
  exact ⟨isReal_of_all A0 Facts.bcast_S_S2000x512 Facts.reducesTo_S2000x512_S_d0_1 Facts.h_S_ ix0 h0,
    isReal_of_all A1 Facts.bcast_S_S8x1024x512 Facts.reducesTo_S8x1024x512_S_d0_1_2 Facts.h_S_ ix0 h1,
    isReal_of_all A2 Facts.bcast_S_S512x512 Facts.reducesTo_S512x512_S_d0_1 Facts.h_S_ ix0 h2,
    isReal_of_all A3 Facts.bcast_S_S512 Facts.reducesTo_S512_S_d0 Facts.h_S_ ix0 h3,
    isReal_of_all A4 Facts.bcast_S_S512x512 Facts.reducesTo_S512x512_S_d0_1 Facts.h_S_ ix0 h4,
    isReal_of_all A5 Facts.bcast_S_S512 Facts.reducesTo_S512_S_d0 Facts.h_S_ ix0 h5,
    isReal_of_all A6 Facts.bcast_S_S512x512 Facts.reducesTo_S512x512_S_d0_1 Facts.h_S_ ix0 h6,
    isReal_of_all A7 Facts.bcast_S_S512 Facts.reducesTo_S512_S_d0 Facts.h_S_ ix0 h7,
    isReal_of_all A8 Facts.bcast_S_S512x512 Facts.reducesTo_S512x512_S_d0_1 Facts.h_S_ ix0 h8,
    isReal_of_all A10 Facts.bcast_S_S512x512 Facts.reducesTo_S512x512_S_d0_1 Facts.h_S_ ix0 h10⟩

end Cert.Pre

end
-- ==== Proof.Run.lean ====
/- The run of the whole program: where the result array stands at the end, the arguments as launched. -/
module

public import proofs.«01_k».proof.Proof.Gen.KernelIdeal.Frame

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters the program ends with the result array at the second region's output, and with
    every argument as launched. -/
theorem run : θ_run defs (onTc (τ := τ) (main (F := F))) ⟨m, fun _ => 0, ρ⟩ (fun r => ∀ c : Dev nD,
      r.2.mem ((c.tc : Thread nD τ).loc main_v17) = (dat1 (F := F) (V5 m ρ) c).arrAt 9 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz c =>
      ⟨(h c _ (mem_uc main_v17 (by decide))).trans (W6_arr m ρ c 9),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c)⟩)

end Cert.KernelIdeal.Run

end
-- ==== Proof.Steps.lean ====
/- The first region's printed steps as recursions: the column sums of the attention over the context, and the hundred and
   one picks of the greatest lane. -/
module

public import proofs.«01_k».proof.Proof.Gen.KernelIdeal.Frame

@[expose] public section

set_option maxRecDepth 16384

noncomputable section

namespace Cert.KernelIdeal.Steps

open Idealize.ShloMosaic Idealize.ShloMosaic.TcCoe Idealize.SL.Sem
open Cert.KernelIdeal Cert.KernelIdeal.Gen

variable {F : FTy → Type} [FloatOps F] [Named F]

/-- Each lane's number. -/
def lane : IVec S1x2048 32 := iota .tc S1x2048 32 [1] iota_S1x2048_d1_w32

/-- The lanes' maximum, on every lane. -/
def top (s : FVec F S1x2048 .f32) : FVec F S1x2048 .f32 :=
  broadcastTo S1x2048 (shapeCast S1x1 (multiReduction .maximumf [1] S1 s 0xFF800000#32 reduces_S1x2048_S1 (.inl rfl) rfl)
    shapeCasts_S1_S1x1) broadcasts_S1x1_S1x2048

/-- The least number of a lane that attains the maximum, on every lane. -/
def first (s : FVec F S1x2048 .f32) : IVec S1x2048 32 :=
  broadcastTo S1x2048 (shapeCast S1x1 (multiReductionI .minsi [1] S1
    (select (cmpf .oeq s (top s)) lane (broadcast S1x2048 2048#32)) 2147483647#32 reduces_S1x2048_S1 rfl)
    shapeCasts_S1_S1x1) broadcasts_S1x1_S1x2048

/-- The picked lane. -/
def pick (s : FVec F S1x2048 .f32) : IVec S1x2048 1 := cmpi .eq lane (first s)

/-- The row stored for the pick: one on the picked lane, zero elsewhere. -/
def row (s : FVec F S1x2048 .f32) : FVec F S1x2048 .f32 :=
  shapeCast S1x2048 (select (pick s) (broadcast S1x2048 (Scalar.ofBits .f32 0x3F800000#32))
    (broadcast S1x2048 (Scalar.ofBits .f32 0x00000000#32))) shapeCasts_S1x2048_S1x2048

/-- The scores after the pick: minus one on the picked lane. -/
def next (s : FVec F S1x2048 .f32) : FVec F S1x2048 .f32 :=
  select (pick s) (broadcast S1x2048 (Scalar.ofBits .f32 0xBF800000#32)) s

/-- The scores after `n` picks. -/
def state (s : FVec F S1x2048 .f32) : Nat → FVec F S1x2048 .f32
  | 0 => s
  | n + 1 => next (state s n)

theorem inbRow (n : Nat) (h : n + 1 ≤ 128) : ∀ a, (![n, 0] : Fin 2 → Nat) a + S1x2048.size a ≤ S128x2048.size a := by
  intro a
  fin_cases a
  · show n + 1 ≤ 128
    exact h
  · show 0 + 2048 ≤ 2048
    decide

/-- The writes of the first `n` rows over the zero fill, the last first. -/
def rows (s : FVec F S1x2048 .f32) : (n : Nat) → n ≤ 128 → List (View.Piece (Elt F) S128x2048 .f32)
  | 0, _ => [⟨Rect.unit ![0, 0] S128x2048.size inb_S128x2048_S128x2048_0_0, k0_pay44⟩]
  | n + 1, h => ⟨Rect.unit ![n, 0] S1x2048.size (inbRow n h), row (state s n)⟩ :: rows s n (Nat.le_of_succ_le h)

/-- The writes of the pick matrix are the recursion's, over the column sums. -/
theorem rows_eq (c : Dev nD) (arg0 : Memref sig .tc .vmem S2048x512 .f32) (harg0 : arg0.IsWhole)
    (arg1 : Memref sig .tc .vmem S1024x512 .f32) (harg1 : arg1.IsWhole)
    (arg2 : Memref sig .tc .vmem S512x512 .f32) (harg2 : arg2.IsWhole)
    (arg3 : Memref sig .tc .vmem S512x512 .f32) (harg3 : arg3.IsWhole)
    (arg7 : Memref sig .tc .vmem S1x512 .f32) (harg7 : arg7.IsWhole)
    (arg8 : Memref sig .tc .vmem S1x512 .f32) (harg8 : arg8.IsWhole)
    (arg16 : Memref sig .tc .vmem S1024x512 .f32) (arg17 : Memref sig .tc .vmem S2048x512 .f32)
    (x0 : Vec F S2048x512 .f32) (x1 : Vec F S1024x512 .f32) (x2 : Vec F S512x512 .f32) (x3 : Vec F S512x512 .f32)
    (x7 : Vec F S1x512 .f32) (x8 : Vec F S1x512 .f32) :
    kernelRun0_A.sl.HS2_102 c arg0 harg0 arg1 harg1 arg2 harg2 arg3 harg3 arg7 harg7 arg8 harg8 arg16 arg17 x0 x1 x2 x3 x7 x8
      = rows (kernelRun0_A.sl.v674 c arg0 harg0 arg1 harg1 arg2 harg2 arg3 harg3 arg7 harg7 arg8 harg8 arg16 arg17 x0 x1 x2 x3 x7 x8)
          101 (by decide) := by
  sl_kernel_rfl

/-! ## The column sums of the attention over the context -/

/-- One block of 128 query rows against all the context rows of a head: the softmax over the masked lanes, its rows added. -/
def term (q : FVec F S128x128 .f32) (k : FVec F S2048x128 .f32) : FVec F S1x2048 .f32 :=
  let s : FVec F S128x2048 .f32 := addf (mulf (matmul dot_S128x128_S2048x128_S128x2048_1_1_0_0_n_n none q k
    (constant S128x2048 .f32 0x00000000#32)) (broadcast S128x2048 (Scalar.ofBits .f32 0x3DB504F3#32)))
    (broadcastTo S128x2048 (k0_pay6 (F := F)) broadcasts_S1x2048_S128x2048)
  let e : FVec F S128x2048 .f32 := exp (subf s (broadcastTo S128x2048 (shapeCast S128x1
    (multiReduction .maximumf [1] S128 s 0xFF800000#32 reduces_S128x2048_S128 (.inl rfl) rfl) shapeCasts_S128_S128x1)
    broadcasts_S128x1_S128x2048))
  let r : FVec F S128x1 .f32 := divf (broadcast S128x1 (Scalar.ofBits .f32 0x3F800000#32)) (shapeCast S128x1
    (multiReduction .add [1] S128 e 0x00000000#32 reduces_S128x2048_S128 (.inl rfl) rfl) shapeCasts_S128_S128x1)
  shapeCast S1x2048 (multiReduction .add [0] S2048 (mulf e (broadcastTo S128x2048 r broadcasts_S128x1_S128x2048))
    0x00000000#32 reduces_S128x2048_S2048 (.inl rfl) rfl) shapeCasts_S2048_S1x2048

/-- The sum of the first `n` blocks' column sums. -/
def cols (q : Nat → FVec F S128x128 .f32) (k : Nat → FVec F S2048x128 .f32) : Nat → FVec F S1x2048 .f32
  | 0 => k0_pay7
  | n + 1 => addf (cols q k n) (term (q n) (k n))

theorem inbQ (n : Nat) : ∀ a, (![128 * (n % 8), 128 * (n / 8 % 4)] : Fin 2 → Nat) a + S128x128.size a ≤ S1024x512.size a := by
  intro a
  fin_cases a
  · show 128 * (n % 8) + 128 ≤ 1024
    omega
  · show 128 * (n / 8 % 4) + 128 ≤ 512
    omega

theorem inbK (n : Nat) : ∀ a, (![0, 128 * (n / 8 % 4)] : Fin 2 → Nat) a + S2048x128.size a ≤ S2048x512.size a := by
  intro a
  fin_cases a
  · show 0 + 2048 ≤ 2048
    omega
  · show 128 * (n / 8 % 4) + 128 ≤ 512
    omega

/-- The query rows of block `n`. -/
def loadQ (v : Memref sig .tc .vmem S1024x512 .f32) (L : List (View.Piece (Elt F) S1024x512 .f32)) (n : Nat) : FVec F S128x128 .f32 :=
  v.view.readCov L (Rect.unit (s := S1024x512) ![128 * (n % 8), 128 * (n / 8 % 4)] S128x128.size (inbQ n)).toLoadRect

/-- The key rows of block `n`. -/
def loadK (v : Memref sig .tc .vmem S2048x512 .f32) (L : List (View.Piece (Elt F) S2048x512 .f32)) (n : Nat) : FVec F S2048x128 .f32 :=
  v.view.readCov L (Rect.unit (s := S2048x512) ![0, 128 * (n / 8 % 4)] S2048x128.size (inbK n)).toLoadRect

/-- The printed chain of the column sums is the recursion's thirty-two blocks. -/
theorem cols_eq (c : Dev nD) (arg0 : Memref sig .tc .vmem S2048x512 .f32) (harg0 : arg0.IsWhole)
    (arg1 : Memref sig .tc .vmem S1024x512 .f32) (harg1 : arg1.IsWhole)
    (arg2 : Memref sig .tc .vmem S512x512 .f32) (harg2 : arg2.IsWhole)
    (arg3 : Memref sig .tc .vmem S512x512 .f32) (harg3 : arg3.IsWhole)
    (arg7 : Memref sig .tc .vmem S1x512 .f32) (harg7 : arg7.IsWhole)
    (arg8 : Memref sig .tc .vmem S1x512 .f32) (harg8 : arg8.IsWhole)
    (arg16 : Memref sig .tc .vmem S1024x512 .f32) (arg17 : Memref sig .tc .vmem S2048x512 .f32)
    (x0 : Vec F S2048x512 .f32) (x1 : Vec F S1024x512 .f32) (x2 : Vec F S512x512 .f32) (x3 : Vec F S512x512 .f32)
    (x7 : Vec F S1x512 .f32) (x8 : Vec F S1x512 .f32) :
    kernelRun0_A.sl.v674 c arg0 harg0 arg1 harg1 arg2 harg2 arg3 harg3 arg7 harg7 arg8 harg8 arg16 arg17 x0 x1 x2 x3 x7 x8
      = cols (loadQ arg16 (kernelRun0_A.sl.HS0_1 c arg1 harg1 arg2 harg2 arg7 harg7 x1 x2 x7))
          (loadK arg17 (kernelRun0_A.sl.HS1_1 c arg0 harg0 arg3 harg3 arg8 harg8 x0 x3 x8)) 32 := by
  sl_kernel_rfl

/-! ## The second region's four heads -/

/-- One head: the masked softmax of the scores, applied to the values. -/
def head (q : FVec F S1024x128 .f32) (k v : FVec F S128x128 .f32) : FVec F S1024x128 .f32 :=
  k1_pay8 (k1_pay4 (F := F)) q k v

/-- The writes of the heads' outputs are the one head function's, on the four column slabs. -/
theorem heads_eq (c : Dev nD) (arg1 : Memref sig .tc .vmem S1x1024x512 .f32) (harg1 : arg1.IsWhole)
    (arg2 : Memref sig .tc .vmem S512x512 .f32) (harg2 : arg2.IsWhole)
    (arg4 : Memref sig .tc .vmem S128x512 .f32) (harg4 : arg4.IsWhole)
    (arg5 : Memref sig .tc .vmem S128x512 .f32) (harg5 : arg5.IsWhole)
    (arg6 : Memref sig .tc .vmem S1x512 .f32) (harg6 : arg6.IsWhole)
    (arg11 : Memref sig .tc .vmem S1024x512 .f32)
    (x0 : Vec F S1x1024x512 .f32) (x1 : Vec F S512x512 .f32) (x3 x4 : Vec F S128x512 .f32) (x5 : Vec F S1x512 .f32) :
    kernelRun1_A.sl.HS1_4 c arg1 harg1 arg2 harg2 arg4 harg4 arg5 harg5 arg6 harg6 arg11 x0 x1 x3 x4 x5
      = [⟨Rect.unit ![0, 384] S1024x128.size inb_S1024x512_S1024x128_0_384,
            head (arg11.view.readCov (kernelRun1_A.sl.HS0_1 c arg1 harg1 arg2 harg2 arg6 harg6 x0 x1 x5)
                (Rect.unit (s := S1024x512) ![0, 384] S1024x128.size inb_S1024x512_S1024x128_0_384).toLoadRect)
              (View.readAt (Elt F) arg4.view (Rect.unit (s := S128x512) ![0, 384] S128x128.size inb_S128x512_S128x128_0_384).toLoadRect (harg4.unread x3))
              (View.readAt (Elt F) arg5.view (Rect.unit (s := S128x512) ![0, 384] S128x128.size inb_S128x512_S128x128_0_384).toLoadRect (harg5.unread x4))⟩,
          ⟨Rect.unit ![0, 256] S1024x128.size inb_S1024x512_S1024x128_0_256,
            head (arg11.view.readCov (kernelRun1_A.sl.HS0_1 c arg1 harg1 arg2 harg2 arg6 harg6 x0 x1 x5)
                (Rect.unit (s := S1024x512) ![0, 256] S1024x128.size inb_S1024x512_S1024x128_0_256).toLoadRect)
              (View.readAt (Elt F) arg4.view (Rect.unit (s := S128x512) ![0, 256] S128x128.size inb_S128x512_S128x128_0_256).toLoadRect (harg4.unread x3))
              (View.readAt (Elt F) arg5.view (Rect.unit (s := S128x512) ![0, 256] S128x128.size inb_S128x512_S128x128_0_256).toLoadRect (harg5.unread x4))⟩,
          ⟨Rect.unit ![0, 128] S1024x128.size inb_S1024x512_S1024x128_0_128,
            head (arg11.view.readCov (kernelRun1_A.sl.HS0_1 c arg1 harg1 arg2 harg2 arg6 harg6 x0 x1 x5)
                (Rect.unit (s := S1024x512) ![0, 128] S1024x128.size inb_S1024x512_S1024x128_0_128).toLoadRect)
              (View.readAt (Elt F) arg4.view (Rect.unit (s := S128x512) ![0, 128] S128x128.size inb_S128x512_S128x128_0_128).toLoadRect (harg4.unread x3))
              (View.readAt (Elt F) arg5.view (Rect.unit (s := S128x512) ![0, 128] S128x128.size inb_S128x512_S128x128_0_128).toLoadRect (harg5.unread x4))⟩,
          ⟨Rect.unit ![0, 0] S1024x128.size inb_S1024x512_S1024x128_0_0,
            head (arg11.view.readCov (kernelRun1_A.sl.HS0_1 c arg1 harg1 arg2 harg2 arg6 harg6 x0 x1 x5)
                (Rect.unit (s := S1024x512) ![0, 0] S1024x128.size inb_S1024x512_S1024x128_0_0).toLoadRect)
              (View.readAt (Elt F) arg4.view (Rect.unit (s := S128x512) ![0, 0] S128x128.size inb_S128x512_S128x128_0_0).toLoadRect (harg4.unread x3))
              (View.readAt (Elt F) arg5.view (Rect.unit (s := S128x512) ![0, 0] S128x128.size inb_S128x512_S128x128_0_0).toLoadRect (harg5.unread x4))⟩] := by
  sl_kernel_rfl

end Cert.KernelIdeal.Steps

end
-- ==== Proof.Spec.lean ====
/- The layer as plain formulas over the extended reals, and the facts about them that the kernel's order of work rests on. -/
module

public import proofs.«01_k».proof.Proof.Pre

@[expose] public section

set_option maxRecDepth 16384

noncomputable section

namespace Cert.Spec

open Idealize.ShloMosaic Cert.Pre

/-! ## Real numbers among the extended reals -/

theorem isReal_iff (x : EReal) : IsReal x ↔ x ≠ ⊤ ∧ x ≠ ⊥ :=
  ⟨fun ⟨r, h⟩ => h ▸ ⟨EReal.coe_ne_top r, EReal.coe_ne_bot r⟩, fun h => ⟨x.toReal, (EReal.coe_toReal h.1 h.2).symm⟩⟩

theorem isReal_add {x y : EReal} (hx : IsReal x) (hy : IsReal y) : IsReal (x + y) := by
  obtain ⟨a, rfl⟩ := hx
  obtain ⟨b, rfl⟩ := hy
  exact ⟨a + b, (EReal.coe_add a b).symm⟩

theorem isReal_mul {x y : EReal} (hx : IsReal x) (hy : IsReal y) : IsReal (x * y) := by
  obtain ⟨a, rfl⟩ := hx
  obtain ⟨b, rfl⟩ := hy
  exact ⟨a * b, (EReal.coe_mul a b).symm⟩

theorem isReal_sum {ι : Type} (s : Finset ι) (f : ι → EReal) (h : ∀ i, IsReal (f i)) : IsReal (∑ i ∈ s, f i) := by
  classical
  induction s using Finset.induction_on with
  | empty => exact ⟨0, by simp⟩
  | insert a s ha ih => rw [Finset.sum_insert ha]; exact isReal_add (h a) ih

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The softmax of a row -/

/-- The greatest element of a row. -/
def mx {n : Nat} (s : Fin n → EReal) : EReal := Finset.univ.fold max ⊥ s

/-- The exponentials of a row, its greatest element taken off. -/
def ex {n : Nat} (s : Fin n → EReal) (i : Fin n) : EReal := Ideal.exp (s i - mx s)

/-- The softmax of a row. -/
def sm {n : Nat} (s : Fin n → EReal) (i : Fin n) : EReal := Ideal.div (ex s i) (∑ j, ex s j)

/-- The softmax with the reciprocal of the sum taken first. -/
def smr {n : Nat} (s : Fin n → EReal) (i : Fin n) : EReal := ex s i * Ideal.div 1 (∑ j, ex s j)

/-- The greatest element of a nonempty row of reals is real. -/
theorem isReal_mx {n : Nat} (hn : 0 < n) (s : Fin n → EReal) (h : ∀ i, IsReal (s i)) : IsReal (mx s) := by
  rw [isReal_iff]
  constructor
  · refine ne_of_lt ?_
    rw [mx, Finset.fold_max_lt]
    exact ⟨bot_lt_top, fun i _ => lt_top_iff_ne_top.2 ((isReal_iff _).1 (h i)).1⟩
  · refine (ne_of_gt ?_)
    rw [mx, Finset.lt_fold_max]
    exact .inr ⟨⟨0, hn⟩, Finset.mem_univ _, bot_lt_iff_ne_bot.2 ((isReal_iff _).1 (h _)).2⟩

/-- The exponentials of a nonempty row of reals are positive reals. -/
theorem ex_real {n : Nat} (hn : 0 < n) (s : Fin n → EReal) (h : ∀ i, IsReal (s i)) :
    ∃ e : Fin n → ℝ, (∀ i, 0 < e i) ∧ ∀ i, ex s i = (e i : EReal) := by
  obtain ⟨m, hm⟩ := isReal_mx hn s h
  choose r hr using h
  refine ⟨fun i => Real.exp (r i - m), fun i => Real.exp_pos _, fun i => ?_⟩
  rw [ex, hm, hr, ← EReal.coe_sub]
  rfl

/-- The softmax of a nonempty row of reals is real and not negative. -/
theorem sm_real {n : Nat} (hn : 0 < n) (s : Fin n → EReal) (h : ∀ i, IsReal (s i)) (i : Fin n) :
    ∃ p : ℝ, 0 ≤ p ∧ sm s i = (p : EReal) := by
  obtain ⟨e, hp, he⟩ := ex_real hn s h
  have hz : ∑ j, ex s j = ((∑ j, e j : ℝ) : EReal) := by
    rw [coe_sum]; exact Finset.sum_congr rfl fun j _ => he j
  have hpos : (0 : ℝ) < ∑ j, e j := Finset.sum_pos (fun j _ => hp j) ⟨⟨0, hn⟩, Finset.mem_univ _⟩
  refine ⟨e i * (1 / ∑ j, e j), mul_nonneg (hp i).le (by positivity), ?_⟩
  rw [sm, hz, Ideal.div_coe hpos.ne', he, EReal.coe_mul]

/-- Taking the reciprocal of the sum first changes nothing when the sum is not zero. -/
theorem smr_eq {n : Nat} (hn : 0 < n) (s : Fin n → EReal) (h : ∀ i, IsReal (s i)) (i : Fin n) : smr s i = sm s i := by
  obtain ⟨e, hp, he⟩ := ex_real hn s h
  have hz : ∑ j, ex s j = ((∑ j, e j : ℝ) : EReal) := by
    rw [coe_sum]; exact Finset.sum_congr rfl fun j _ => he j
  have hpos : (0 : ℝ) < ∑ j, e j := Finset.sum_pos (fun j _ => hp j) ⟨⟨0, hn⟩, Finset.mem_univ _⟩
  rw [smr, sm, hz, Ideal.div_coe hpos.ne', Ideal.div_coe hpos.ne', one_mul]

/-- A sum whose terms past the first `n` are zero is the sum of the first `n`. -/
theorem sum_pad {n N : Nat} (hN : n ≤ N) (f : Fin N → EReal) (hf : ∀ i, n ≤ i.val → f i = 0) :
    ∑ i, f i = ∑ i : Fin n, f (i.castLE hN) := by
  refine (Fintype.sum_of_injective (Fin.castLE hN) (Fin.castLE_injective hN) _ _ (fun i hi => hf i ?_) fun i => rfl).symm
  by_contra hc
  exact hi ⟨⟨i.val, by omega⟩, rfl⟩

/-- Lanes of minus infinity past the first `n` do not change the maximum. -/
theorem mx_pad {n N : Nat} (hN : n ≤ N) (s : Fin N → EReal) (hs : ∀ i, n ≤ i.val → s i = ⊥) :
    mx s = mx fun i : Fin n => s (i.castLE hN) := by
  apply le_antisymm
  · rw [mx, Finset.fold_max_le]
    refine ⟨bot_le, fun i _ => ?_⟩
    by_cases hi : n ≤ i.val
    · rw [hs i hi]; exact bot_le
    · rw [mx, Finset.le_fold_max]
      exact .inr ⟨⟨i.val, by omega⟩, Finset.mem_univ _, le_rfl⟩
  · rw [mx, Finset.fold_max_le]
    refine ⟨bot_le, fun i _ => ?_⟩
    rw [mx, Finset.le_fold_max]
    exact .inr ⟨i.castLE hN, Finset.mem_univ _, le_rfl⟩

/-- A lane of minus infinity has exponential zero. -/
theorem ex_bot {n : Nat} (s : Fin n → EReal) (i : Fin n) (h : s i = ⊥) : ex s i = 0 := by
  rw [ex, h, EReal.bot_sub]
  rfl

/-- The masked softmax is the softmax of the lanes that are not masked, and zero on the masked ones. -/
theorem smr_pad {n N : Nat} (hN : n ≤ N) (hn : 0 < n) (s : Fin N → EReal) (s' : Fin n → EReal)
    (hs : ∀ i, n ≤ i.val → s i = ⊥) (hs' : ∀ i, s (i.castLE hN) = s' i) (hr : ∀ i, IsReal (s' i)) (i : Fin N) :
    smr s i = if h : i.val < n then sm s' ⟨i.val, h⟩ else 0 := by
  have hm : mx s = mx s' := by rw [mx_pad hN s hs]; exact congrArg mx (funext hs')
  have he : ∀ i, ex s (i.castLE hN) = ex s' i := fun i => by rw [ex, ex, hm, hs']
  by_cases h : i.val < n
  · have hi := he ⟨i.val, h⟩
    rw [dif_pos h, ← smr_eq hn s' hr, smr, smr, sum_pad hN _ fun j hj => ex_bot s j (hs j hj)]
    rw [← hi, Finset.sum_congr rfl fun j _ => he j]
    rfl
  · rw [dif_neg h, smr, ex_bot s i (hs i (by omega)), zero_mul]

/-! ## Two linear maps in a row -/

/-- Multiplication by a real number distributes over a sum one of whose two terms is real. -/
theorem add_mul_real {x w : EReal} (y : EReal) (hx : IsReal x) (hw : IsReal w) : (x + y) * w = x * w + y * w := by
  obtain ⟨a, rfl⟩ := hx
  obtain ⟨c, rfl⟩ := hw
  induction y with
  | coe b => norm_cast; ring
  | top =>
    rcases lt_trichotomy c 0 with h | rfl | h
    · rw [EReal.coe_add_top, EReal.top_mul_coe_of_neg h, ← EReal.coe_mul, EReal.add_bot]
    · simp
    · rw [EReal.coe_add_top, EReal.top_mul_coe_of_pos h, ← EReal.coe_mul, EReal.coe_add_top]
  | bot =>
    rcases lt_trichotomy c 0 with h | rfl | h
    · rw [EReal.add_bot, EReal.bot_mul_coe_of_neg h, ← EReal.coe_mul, EReal.coe_add_top]
    · simp
    · rw [EReal.add_bot, EReal.bot_mul_coe_of_pos h, ← EReal.coe_mul, EReal.add_bot]

/-- Two linear maps in a row are one, with the product of the matrices; the offsets may be anything. -/
theorem lin_lin {n : Nat} (o : Fin n → EReal) (W : Fin n → Fin n → EReal) (b : Fin n → EReal) (w : Fin n → EReal) (c : EReal)
    (ho : ∀ k, IsReal (o k)) (hW : ∀ j k, IsReal (W j k)) (hw : ∀ j, IsReal (w j)) :
    (∑ k, o k * ∑ j, W j k * w j) + ((∑ j, b j * w j) + c) = (∑ j, ((∑ k, o k * W j k) + b j) * w j) + c := by
  have h1 : ∀ j, ((∑ k, o k * W j k) + b j) * w j = (∑ k, o k * W j k) * w j + b j * w j := fun j =>
    add_mul_real _ (isReal_sum _ _ fun k => isReal_mul (ho k) (hW j k)) (hw j)
  rw [Finset.sum_congr rfl fun j _ => h1 j, Finset.sum_add_distrib, ← add_assoc]
  congr 2
  choose o' ho' using ho
  choose W' hW' using hW
  choose w' hw' using hw
  simp only [ho', hW', hw', ← EReal.coe_mul, ← coe_sum]
  congr 1
  simp only [Finset.mul_sum, Finset.sum_mul]
  rw [Finset.sum_comm]
  exact Finset.sum_congr rfl fun j _ => Finset.sum_congr rfl fun k _ => (mul_assoc _ _ _).symm

/-! ## The layer -/

/-- The arguments. -/
@[ext] structure Args where
  C : FVec Ideal ⟨2, ![2000, 512]⟩ .f32
  E : FVec Ideal ⟨3, ![8, 1024, 512]⟩ .f32
  Wq : FVec Ideal ⟨2, ![512, 512]⟩ .f32
  bq : FVec Ideal ⟨1, ![512]⟩ .f32
  Wk : FVec Ideal ⟨2, ![512, 512]⟩ .f32
  bk : FVec Ideal ⟨1, ![512]⟩ .f32
  Wv : FVec Ideal ⟨2, ![512, 512]⟩ .f32
  bv : FVec Ideal ⟨1, ![512]⟩ .f32
  Wo : FVec Ideal ⟨2, ![512, 512]⟩ .f32
  bo : FVec Ideal ⟨1, ![512]⟩ .f32
  Wc : FVec Ideal ⟨2, ![512, 512]⟩ .f32
  bc : FVec Ideal ⟨1, ![512]⟩ .f32
  g : FVec Ideal ⟨1, ![512]⟩ .f32
  b : FVec Ideal ⟨1, ![512]⟩ .f32

/-- The arguments the precondition speaks of are real. -/
structure Args.Ok (A : Args) : Prop where
  C : ∀ i, IsReal (A.C i)
  E : ∀ i, IsReal (A.E i)
  Wq : ∀ i, IsReal (A.Wq i)
  bq : ∀ i, IsReal (A.bq i)
  Wk : ∀ i, IsReal (A.Wk i)
  bk : ∀ i, IsReal (A.bk i)
  Wv : ∀ i, IsReal (A.Wv i)
  bv : ∀ i, IsReal (A.bv i)
  Wo : ∀ i, IsReal (A.Wo i)
  Wc : ∀ i, IsReal (A.Wc i)

/-- A linear map: the product with the matrix's rows, plus the offset. -/
def lin (x : Fin 512 → EReal) (W : FVec Ideal ⟨2, ![512, 512]⟩ .f32) (b : FVec Ideal ⟨1, ![512]⟩ .f32) (j : Fin 512) : EReal :=
  (∑ k, x k * W (ix2 j k)) + b (ix1 j)

theorem isReal_lin (x : Fin 512 → EReal) (W : FVec Ideal ⟨2, ![512, 512]⟩ .f32) (b : FVec Ideal ⟨1, ![512]⟩ .f32)
    (hx : ∀ k, IsReal (x k)) (hW : ∀ i, IsReal (W i)) (hb : ∀ i, IsReal (b i)) (j : Fin 512) : IsReal (lin x W b j) :=
  isReal_add (isReal_sum _ _ fun _ => isReal_mul (hx _) (hW _)) (hb _)

/-- Column `d` of head `h`. -/
def hd (h : Fin 4) (d : Fin 128) : Fin 512 := ⟨h.val * 128 + d.val, by omega⟩

/-- The scale of the scores. -/
def SC : EReal := Ideal.ofBits .f32 0x3DB504F3#32

theorem isReal_SC : IsReal SC := by
  rw [SC, isReal_iff]
  constructor <;> simp [Ideal.ofBits, Ideal.ieee, -EReal.coe_mul]

/-- The scaled product of two rows over one head's columns. -/
def score (x y : Fin 512 → EReal) (h : Fin 4) : EReal := (∑ d : Fin 128, x (hd h d) * y (hd h d)) * SC

theorem isReal_score (x y : Fin 512 → EReal) (h : Fin 4) (hx : ∀ k, IsReal (x k)) (hy : ∀ k, IsReal (y k)) : IsReal (score x y h) :=
  isReal_mul (isReal_sum _ _ fun _ => isReal_mul (hx _) (hy _)) isReal_SC

namespace Args

variable (A : Args)

/-- The query of position `t` of batch entry `b`. -/
def q (b : Fin 8) (t : Fin 1024) : Fin 512 → EReal := lin (fun k => A.E (ix3 b t k)) A.Wq A.bq

/-- The key of context row `n`. -/
def key (n : Fin 2000) : Fin 512 → EReal := lin (fun k => A.C (ix2 n k)) A.Wk A.bk

/-- The value of context row `n`. -/
def val (n : Fin 2000) : Fin 512 → EReal := lin (fun k => A.C (ix2 n k)) A.Wv A.bv

/-- The first batch entry's attention over the whole context. -/
def att (t : Fin 1024) (h : Fin 4) : Fin 2000 → EReal := sm fun n => score (A.q 0 t) (A.key n) h

/-- The total attention each context row gets. -/
def cs (n : Fin 2000) : EReal := ∑ h, ∑ t, A.att t h n

/-- The attention over the picked context rows. -/
def att2 (p : Fin 101 → Fin 2000) (b : Fin 8) (t : Fin 1024) (h : Fin 4) : Fin 101 → EReal :=
  sm fun r => score (A.q b t) (A.key (p r)) h

/-- The attention's output: the picked values, weighted. -/
def o (p : Fin 101 → Fin 2000) (b : Fin 8) (t : Fin 1024) (j : Fin 512) : EReal :=
  ∑ r, A.att2 p b t ⟨j.val / 128, by omega⟩ r * A.val (p r) j

/-- The two output maps applied to the attention's output and added to the input. -/
def x (p : Fin 101 → Fin 2000) (b : Fin 8) (t : Fin 1024) (i : Fin 512) : EReal :=
  A.E (ix3 b t i) + lin (lin (A.o p b t) A.Wo A.bo) A.Wc A.bc i

end Args

/-- The mean of a row. -/
def mean (x : Fin 512 → EReal) : EReal := Ideal.div (∑ i, x i) (Ideal.ofBits .f32 0x44000000#32)

/-- The layer norm of a row. -/
def norm (x g b : Fin 512 → EReal) (i : Fin 512) : EReal :=
  (x i - mean x) * Ideal.rsqrt (mean (fun j => (x j - mean x) * (x j - mean x)) + Ideal.ofBits .f32 0x3727C5AC#32) * g i + b i

namespace Args

variable (A : Args)

/-- The layer's result, given the picked rows. -/
def out (p : Fin 101 → Fin 2000) (b : Fin 8) (t : Fin 1024) : Fin 512 → EReal :=
  norm (A.x p b t) (fun i => A.g (ix1 i)) (fun i => A.b (ix1 i))

variable {A} (hA : A.Ok)
include hA

theorem isReal_q (b : Fin 8) (t : Fin 1024) (j : Fin 512) : IsReal (A.q b t j) :=
  isReal_lin _ _ _ (fun _ => hA.E _) hA.Wq hA.bq j

theorem isReal_key (n : Fin 2000) (j : Fin 512) : IsReal (A.key n j) := isReal_lin _ _ _ (fun _ => hA.C _) hA.Wk hA.bk j

theorem isReal_val (n : Fin 2000) (j : Fin 512) : IsReal (A.val n j) := isReal_lin _ _ _ (fun _ => hA.C _) hA.Wv hA.bv j

theorem isReal_scores (b : Fin 8) (t : Fin 1024) (n : Fin 2000) (h : Fin 4) : IsReal (score (A.q b t) (A.key n) h) :=
  isReal_score _ _ h (isReal_q hA b t) (isReal_key hA n)

theorem cs_nonneg (n : Fin 2000) : 0 ≤ A.cs n := by
  refine Finset.sum_nonneg fun h _ => Finset.sum_nonneg fun t _ => ?_
  obtain ⟨p, hp, e⟩ := sm_real (by decide) (fun n => score (A.q 0 t) (A.key n) h) (fun n => isReal_scores hA 0 t n h) n
  rw [att, e]
  exact_mod_cast hp

theorem isReal_o (p : Fin 101 → Fin 2000) (b : Fin 8) (t : Fin 1024) (j : Fin 512) : IsReal (A.o p b t j) := by
  refine isReal_sum _ _ fun r => isReal_mul ?_ (isReal_val hA _ _)
  obtain ⟨w, -, e⟩ := sm_real (by decide) (fun r => score (A.q b t) (A.key (p r)) ⟨j.val / 128, by omega⟩)
    (fun r => isReal_scores hA b t (p r) _) r
  exact ⟨w, e⟩

/-- The input of the layer norm with the two output matrices multiplied first. -/
theorem x_eq (p : Fin 101 → Fin 2000) (b : Fin 8) (t : Fin 1024) (i : Fin 512) :
    A.x p b t i = A.E (ix3 b t i) + ((∑ k, A.o p b t k * ∑ j : Fin 512, A.Wo (ix2 j k) * A.Wc (ix2 i j))
      + ((∑ j : Fin 512, A.bo (ix1 j) * A.Wc (ix2 i j)) + A.bc (ix1 i))) :=
  congrArg (A.E (ix3 b t i) + ·) (lin_lin (A.o p b t) (fun j k => A.Wo (ix2 j k)) (fun j => A.bo (ix1 j))
    (fun j => A.Wc (ix2 i j)) _ (isReal_o hA p b t) (fun _ _ => hA.Wo _) (fun _ => hA.Wc _)).symm

end Args

end Cert.Spec

end
-- ==== Proof.Sel.lean ====
/- Picking the greatest lane again and again gives the first positions of the stable descending sort. -/
module

public import Idealize.ShloMosaic.Lib.SortPrefix
public import Idealize.ShloMosaic.Lib.Pointwise

@[expose] public section

noncomputable section

namespace Cert.Sel

open Idealize.ShloMosaic

/-- The greater value sorts first. -/
def greater {n : Nat} (g : Fin n → EReal) (a b : Fin n) : Bool := decide (g b < g a)

/-- The greater value sorts first, and of equal values the lower position. -/
def greaterThenFirst {n : Nat} (g : Fin n → EReal) (a b : Fin n) : Bool :=
  decide (g b < g a) || (decide (g a = g b) && decide (a < b))

theorem total {n : Nat} (g : Fin n → EReal) : StrictTotalBefore (greaterThenFirst g) :=
  StrictTotalBefore.of_key_then_position (fun x y => decide (y < x)) g (by simp)
    (fun a b c h h' => by simp only [decide_eq_true_eq] at *; exact lt_trans h' h)
    (fun a b => by simp only [decide_eq_true_eq]; rcases lt_trichotomy a b with h | h | h <;> simp [h])

/-- On a list in position order the stable sort by the value alone is the sort by value and position. -/
theorem stableSort_greater {n : Nat} (g : Fin n → EReal) (l : List (Fin n)) (hl : l.Pairwise (· < ·)) :
    stableSort (greater g) l = stableSort (greaterThenFirst g) l := by
  induction l with
  | nil => rfl
  | cons a l ih =>
    rw [List.pairwise_cons] at hl
    unfold stableSort
    rw [ih hl.2]
    refine insertBefore_congr _ _ a _ fun b hb => ?_
    have hab : a < b := hl.1 b ((perm_stableSort _ l).mem_iff.mp hb)
    have hba : ¬ b < a := lt_asymm hab
    simp [greater, greaterThenFirst, hba]

theorem sortedFrom_greater {n : Nat} (g : Fin n → EReal) (k : Fin n) :
    sortedFrom (greater g) k = sortedFrom (greaterThenFirst g) k := by
  have h : sortPositions n (greater g) = sortPositions n (greaterThenFirst g) :=
    stableSort_greater g _ (List.pairwise_lt_finRange n)
  unfold sortedFrom
  rw [List.get_of_eq h]
  rfl

/-- The least lane among those of the greatest value. -/
def IsBest {n : Nat} (f : Fin n → EReal) (p : Fin n) : Prop := (∀ i, f i ≤ f p) ∧ ∀ i, f i = f p → p ≤ i

theorem exists_best {n : Nat} [NeZero n] (f : Fin n → EReal) : ∃ p, IsBest f p := by
  obtain ⟨q, hq⟩ := Finite.exists_max f
  have hne : (Finset.univ.filter fun i => f i = f q).Nonempty := ⟨q, by simp⟩
  refine ⟨(Finset.univ.filter fun i => f i = f q).min' hne, ?_⟩
  have hm := Finset.min'_mem _ hne
  rw [Finset.mem_filter] at hm
  refine ⟨fun i => le_of_le_of_eq (hq i) hm.2.symm, fun i hi => Finset.min'_le _ _ ?_⟩
  rw [Finset.mem_filter]
  exact ⟨Finset.mem_univ _, hi.trans hm.2⟩

/-- The picked lane. -/
def best (f : Fin 2048 → EReal) : Fin 2048 := (exists_best f).choose

theorem best_spec (f : Fin 2048 → EReal) : IsBest f (best f) := (exists_best f).choose_spec

theorem IsBest.eq_best {f : Fin 2048 → EReal} {p : Fin 2048} (h : IsBest f p) : p = best f := by
  have hb := best_spec f
  have e : f p = f (best f) := le_antisymm (hb.1 p) (h.1 _)
  exact le_antisymm (h.2 _ e.symm) (hb.2 _ e)

/-- The lanes' values after `k` picks: a picked lane holds minus one. -/
def st (f : Fin 2048 → EReal) : Nat → Fin 2048 → EReal
  | 0 => f
  | k + 1 => fun i => if i = best (st f k) then ((-1 : ℝ) : EReal) else st f k i

/-- The lane of pick `k`. -/
def sel (f : Fin 2048 → EReal) (k : Nat) : Fin 2048 := best (st f k)

theorem st_eq (f : Fin 2048 → EReal) (k : Nat) (i : Fin 2048) :
    st f k i = if ∃ j, j < k ∧ sel f j = i then ((-1 : ℝ) : EReal) else f i := by
  induction k with
  | zero => simp [st]
  | succ k ih =>
    show (if i = best (st f k) then ((-1 : ℝ) : EReal) else st f k i) = _
    by_cases h : i = best (st f k)
    · rw [if_pos h, if_pos ⟨k, Nat.lt_succ_self k, h.symm⟩]
    · rw [if_neg h, ih]
      refine if_congr ⟨fun ⟨j, hj, e⟩ => ⟨j, by omega, e⟩, fun ⟨j, hj, e⟩ => ⟨j, ?_, e⟩⟩ rfl rfl
      rcases Nat.lt_succ_iff_lt_or_eq.mp hj with hj | hj
      · exact hj
      · subst hj; exact absurd e.symm h

section

variable {f : Fin 2048 → EReal} (h0 : ∀ i, 0 ≤ f i) (hz : ∀ i : Fin 2048, 2000 ≤ i.val → f i = 0)
include h0 hz

/-- Before 2000 picks some lane below 2000 is left. -/
theorem exists_left {k : Nat} (hk : k < 2000) : ∃ i : Fin 2048, i.val < 2000 ∧ ∀ j, j < k → sel f j ≠ i := by
  classical
  have hc : ((Finset.range k).image (sel f)).card < (Finset.univ.filter fun i : Fin 2048 => i.val < 2000).card := by
    refine lt_of_le_of_lt Finset.card_image_le ?_
    rw [Finset.card_range]
    have : (Finset.univ.filter fun i : Fin 2048 => i.val < 2000).card = 2000 := by
      rw [Fin.card_filter_val_lt]; rfl
    omega
  obtain ⟨i, hi, hn⟩ := Finset.exists_mem_notMem_of_card_lt_card hc
  rw [Finset.mem_filter] at hi
  refine ⟨i, hi.2, fun j hj e => hn ?_⟩
  rw [Finset.mem_image]
  exact ⟨j, Finset.mem_range.mpr hj, e⟩

theorem neg_one_lt (i : Fin 2048) : ((-1 : ℝ) : EReal) < f i :=
  lt_of_lt_of_le (show ((-1 : ℝ) : EReal) < ((0 : ℝ) : EReal) from EReal.coe_lt_coe_iff.mpr (by norm_num)) (h0 i)

/-- Pick `k` is a new lane. -/
theorem sel_new {k : Nat} (hk : k < 2000) (j : Nat) (hj : j < k) : sel f j ≠ sel f k := by
  intro e
  obtain ⟨i, -, hi⟩ := exists_left h0 hz hk
  have h1 := (best_spec (st f k)).1 i
  have e1 : st f k i = f i := by rw [st_eq, if_neg]; rintro ⟨j, hj, e⟩; exact hi j hj e
  have e2 : st f k (best (st f k)) = ((-1 : ℝ) : EReal) := by
    have := st_eq f k (best (st f k))
    rw [this, if_pos ⟨j, hj, e⟩]
  rw [e1, e2] at h1
  exact absurd (neg_one_lt h0 hz i) (not_lt.mpr h1)

theorem st_sel {k : Nat} (hk : k < 2000) : st f k (sel f k) = f (sel f k) := by
  rw [st_eq, if_neg]
  rintro ⟨j, hj, e⟩
  exact sel_new h0 hz hk j hj e

/-- A lane not picked before is not above pick `k`, and if it ties it isn't lower. -/
theorem sel_best {k : Nat} (hk : k < 2000) (i : Fin 2048) (hi : ∀ j, j < k → sel f j ≠ i) :
    f i ≤ f (sel f k) ∧ (f i = f (sel f k) → sel f k ≤ i) := by
  have e1 : st f k i = f i := by rw [st_eq, if_neg]; rintro ⟨j, hj, e⟩; exact hi j hj e
  have e2 := st_sel h0 hz hk
  have hb := best_spec (st f k)
  refine ⟨?_, fun e => hb.2 i ?_⟩
  · rw [← e1, ← e2]; exact hb.1 i
  · rw [e1, e]; exact e2.symm

/-- Every pick is a lane below 2000. -/
theorem sel_lt {k : Nat} (hk : k < 2000) : (sel f k).val < 2000 := by
  by_contra hge
  obtain ⟨i, hi, hn⟩ := exists_left h0 hz hk
  obtain ⟨hle, htie⟩ := sel_best h0 hz hk i hn
  have e : f (sel f k) = 0 := hz _ (by omega)
  have := htie (le_antisymm hle (e ▸ h0 i))
  rw [Fin.le_def] at this
  omega

/-- The picks are the first 101 positions of the stable descending sort of the lanes below 2000. -/
theorem sortedFrom_sel (g : Fin 2000 → EReal) (hg : ∀ i : Fin 2000, g i = f (i.castLE (by decide))) (k : Fin 101) :
    sortedFrom (greater g) (k.castLE (by decide)) = ⟨(sel f k.val).val, sel_lt h0 hz (by have := k.isLt; omega)⟩ := by
  rw [sortedFrom_greater]
  have hlt : ∀ k : Fin 101, k.val < 2000 := fun k => by have := k.isLt; omega
  have hgs : ∀ k : Fin 101, g ⟨(sel f k.val).val, sel_lt h0 hz (hlt k)⟩ = f (sel f k.val) := fun k => by rw [hg]; rfl
  refine (total g).sortedFrom_eq_of_prefix (by decide) (fun k : Fin 101 => ⟨(sel f k.val).val, sel_lt h0 hz (hlt k)⟩) ?_ ?_ ?_ k
  · intro a b e
    have e' : sel f a.val = sel f b.val := Fin.ext (Fin.mk.inj e)
    rcases lt_trichotomy a b with h | h | h
    · exact absurd e' (sel_new h0 hz (hlt b) _ h)
    · exact h
    · exact absurd e'.symm (sel_new h0 hz (hlt a) _ h)
  · intro a b hab
    have hs := sel_best h0 hz (hlt a) (sel f b.val) (fun j hj e => sel_new h0 hz (hlt b) j (lt_trans hj hab) e)
    have hne := sel_new h0 hz (hlt b) a.val hab
    simp only [greaterThenFirst, hgs, Bool.or_eq_false_iff, Bool.and_eq_false_iff, decide_eq_false_iff_not, not_lt]
    refine ⟨hs.1, ?_⟩
    by_cases e : f (sel f b.val) = f (sel f a.val)
    · right
      exact hs.2 e
    · exact Or.inl e
  · intro a p hp
    have hs := sel_best h0 hz (hlt a) (p.castLE (by decide))
      (fun j hj e => hp ⟨j, by have := a.isLt; omega⟩ (Fin.ext (by show (sel f j).val = p.val; rw [e]; rfl)))
    simp only [greaterThenFirst, hgs, hg p, Bool.or_eq_false_iff, Bool.and_eq_false_iff, decide_eq_false_iff_not, not_lt]
    refine ⟨hs.1, ?_⟩
    by_cases e : f (p.castLE (by decide)) = f (sel f a.val)
    · right
      exact hs.2 e
    · exact Or.inl e

end

end Cert.Sel

end
-- ==== Proof.Pure.lean ====
/- The kernel's vector formulas read at an index. -/
module

public import proofs.«01_k».proof.Proof.Steps
public import proofs.«01_k».proof.Proof.Spec
public import proofs.«01_k».proof.Proof.Sel

@[expose] public section

set_option maxRecDepth 16384

noncomputable section

namespace Cert.KernelIdeal.Pure

open Idealize.ShloMosaic Idealize.ShloMosaic.TcCoe Idealize.SL.Sem
open Cert.KernelIdeal Cert.KernelIdeal.Gen Cert.KernelIdeal.Steps
open Cert.Spec (SC mx ex smr)

/-- The query scratch at an index. -/
theorem pay4_at (x : FVec Ideal S1024x512 .f32) (w : FVec Ideal S512x512 .f32) (b : FVec Ideal S1x512 .f32) (r : Fin 1024) (c : Fin 512) :
    k0_pay4 (F := Ideal) x w b (ix2 r c) = (∑ k : Fin 512, x (ix2 r k) * w (ix2 k c)) + b (ix2 0 c) := by
  pointwise! [k0_pay4]

/-- The key scratch at an index. -/
theorem pay5_at (x : FVec Ideal S2048x512 .f32) (w : FVec Ideal S512x512 .f32) (b : FVec Ideal S1x512 .f32) (r : Fin 2048) (c : Fin 512) :
    k0_pay5 (F := Ideal) x w b (ix2 r c) = (∑ k : Fin 512, x (ix2 r k) * w (ix2 k c)) + b (ix2 0 c) := by
  pointwise! [k0_pay5]

/-- The picked context rows at an index. -/
theorem pay380_at (p : FVec Ideal S128x2048 .f32) (x : FVec Ideal S2048x512 .f32) (r : Fin 128) (c : Fin 512) :
    k0_pay380 (F := Ideal) p x (ix2 r c) = ∑ k : Fin 2048, p (ix2 r k) * x (ix2 k c) := by
  pointwise! [k0_pay380]

/-- The keys of the picked context rows at an index. -/
theorem pay381_at (p : FVec Ideal S128x2048 .f32) (x : FVec Ideal S2048x512 .f32) (w : FVec Ideal S512x512 .f32) (b : FVec Ideal S1x512 .f32)
    (r : Fin 128) (c : Fin 512) :
    k0_pay381 (F := Ideal) p x w b (ix2 r c) = (∑ k : Fin 512, k0_pay380 (F := Ideal) p x (ix2 r k) * w (ix2 k c)) + b (ix2 0 c) := by
  pointwise! [k0_pay381]

/-- The values of the picked context rows at an index. -/
theorem pay1_at (x : FVec Ideal S128x512 .f32) (w : FVec Ideal S512x512 .f32) (b : FVec Ideal S1x512 .f32) (r : Fin 128) (c : Fin 512) :
    k0_pay1 (F := Ideal) x w b (ix2 r c) = (∑ k : Fin 512, x (ix2 r k) * w (ix2 k c)) + b (ix2 0 c) := by
  pointwise! [k0_pay1]

/-- The product of the two output matrices at an index. -/
theorem pay2_at (x w : FVec Ideal S512x512 .f32) (r c : Fin 512) :
    k0_pay2 (F := Ideal) x w (ix2 r c) = ∑ k : Fin 512, x (ix2 r k) * w (ix2 k c) := by
  pointwise! [k0_pay2]

/-- The joint offset of the two output maps at an index. -/
theorem pay3_at (x : FVec Ideal S1x512 .f32) (w : FVec Ideal S512x512 .f32) (b : FVec Ideal S1x512 .f32) (c : Fin 512) :
    k0_pay3 (F := Ideal) x w b (ix2 0 c) = (∑ k : Fin 512, x (ix2 0 k) * w (ix2 k c)) + b (ix2 0 c) := by
  pointwise! [k0_pay3]

/-- The second region's query scratch at an index. -/
theorem k1_pay3_at (x : FVec Ideal S1x1024x512 .f32) (w : FVec Ideal S512x512 .f32) (b : FVec Ideal S1x512 .f32) (r : Fin 1024) (c : Fin 512) :
    k1_pay3 (F := Ideal) x w b (ix2 r c) = (∑ k : Fin 512, x (ix3 0 r k) * w (ix2 k c)) + b (ix2 0 c) := by
  pointwise! [k1_pay3, k1_pay2]

theorem mask_bot : Named.named (F := Ideal) κ "mask" (φ := .f32) 0xF149F2CA#32 = (⊥ : EReal) :=
  IdealRules.named_const.ideal_named_scalar _ _ _ _ rfl

theorem pat_top : Ideal.ofBits .f32 0x7F800000#32 = (⊤ : EReal) := by simp [Ideal.ofBits, Ideal.ieee]
theorem pat_bot : Ideal.ofBits .f32 0xFF800000#32 = (⊥ : EReal) := by simp [Ideal.ofBits, Ideal.ieee]
theorem pat_neg_one : Ideal.ofBits .f32 0xBF800000#32 = ((-1 : ℝ) : EReal) := by
  simp [Ideal.ofBits, Ideal.ieee, -EReal.coe_mul]
  norm_num

/-- The first region's mask at a lane. -/
theorem mask_at (i : Fin 2048) : k0_pay6 (F := Ideal) (ix2 0 i) = if i.val < 2000 then (0 : EReal) else ⊥ := by
  pointwise [k0_pay6, mask_bot]
  have h : IntOp.cmpi .slt (BitVec.ofNat 32 i.val) 2000#32 = BitVec.ofBool (decide (i.val < 2000)) :=
    WordCmp.cmpi_slt_ofNat (by omega) (by omega)
  rw [h]
  by_cases hi : i.val < 2000 <;> simp [hi, Scalar.select]

/-- The second region's mask at a lane. -/
theorem k1_mask_at (i : Fin 128) : k1_pay4 (F := Ideal) (ix2 0 i) = if i.val < 101 then (0 : EReal) else ⊥ := by
  pointwise [k1_pay4, mask_bot]
  have h : IntOp.cmpi .slt (BitVec.ofNat 32 i.val) 101#32 = BitVec.ofBool (decide (i.val < 101)) :=
    WordCmp.cmpi_slt_ofNat (by omega) (by omega)
  rw [h]
  by_cases hi : i.val < 101 <;> simp [hi, Scalar.select]

/-- One block's column sums at a lane: the masked softmaxes of its 128 rows, added. -/
theorem term_at (q : FVec Ideal S128x128 .f32) (k : FVec Ideal S2048x128 .f32) (i : Fin 2048) :
    term q k (ix2 0 i) = ∑ r : Fin 128,
      smr (fun n : Fin 2048 => (∑ d : Fin 128, q (ix2 r d) * k (ix2 n d)) * SC + k0_pay6 (F := Ideal) (ix2 0 n)) i := by
  pointwise [term, pat_bot]
  rfl

/-- One head's output at an index. -/
theorem head_at (q : FVec Ideal S1024x128 .f32) (k v : FVec Ideal S128x128 .f32) (r : Fin 1024) (c : Fin 128) :
    head q k v (ix2 r c) = ∑ n : Fin 128,
      smr (fun n : Fin 128 => (∑ d : Fin 128, q (ix2 r d) * k (ix2 n d)) * SC + k1_pay4 (F := Ideal) (ix2 0 n)) n * v (ix2 n c) := by
  pointwise [head, k1_pay8, pat_bot]
  rfl

theorem top_at (s : FVec Ideal S1x2048 .f32) (i : Fin 2048) : top s (ix2 0 i) = mx fun n : Fin 2048 => s (ix2 0 n) := by
  pointwise [top, pat_bot]
  rfl

/-- The row of lanes as a function. -/
def fn (s : FVec Ideal S1x2048 .f32) (n : Fin 2048) : EReal := s (ix2 0 n)

theorem toInt_minsi (x y : BitVec 32) : (IntOp.minsi x y).toInt = min x.toInt y.toInt := by
  unfold IntOp.minsi
  by_cases h : x.slt y
  · rw [if_pos h, min_eq_left (BitVec.slt_iff_toInt_lt.1 h).le]
  · rw [if_neg h, min_eq_right (not_lt.1 fun hc => h (BitVec.slt_iff_toInt_lt.2 hc))]

theorem toInt_small (n : Nat) (h : n < 4096) : (BitVec.ofNat 32 n).toInt = n := by
  have e : (BitVec.ofNat 32 n).toNat = n := by rw [BitVec.toNat_ofNat]; omega
  rw [BitVec.toInt_eq_toNat_of_lt (by omega), e]

/-- The least lane that attains the row's greatest value, as the integer minimum the kernel takes. -/
theorem fold_first (f : Fin 2048 → EReal) :
    Finset.fold IntOp.minsi (2147483647#32) (fun x : Fin 2048 => if f x = mx f then BitVec.ofNat 32 x.val else 2048#32) Finset.univ
      = BitVec.ofNat 32 (Sel.best f).val := by
  obtain ⟨hle, hfirst⟩ := Sel.best_spec f
  have hm : mx f = f (Sel.best f) := by
    apply le_antisymm
    · rw [mx, Finset.fold_max_le]
      exact ⟨bot_le, fun i _ => hle i⟩
    · rw [mx, Finset.le_fold_max]
      exact .inr ⟨_, Finset.mem_univ _, le_rfl⟩
  have hb := (Sel.best f).isLt
  have ht := toInt_small (Sel.best f).val (by omega)
  apply BitVec.eq_of_toInt_eq
  rw [← Finset.fold_hom (op' := min) toInt_minsi, ht]
  apply le_antisymm
  · rw [Finset.fold_min_le]
    refine .inr ⟨Sel.best f, Finset.mem_univ _, ?_⟩
    rw [if_pos hm.symm, ht]
  · rw [Finset.le_fold_min]
    refine ⟨?_, fun x _ => ?_⟩
    · have : (2147483647#32).toInt = 2147483647 := by decide
      omega
    · by_cases hx : f x = mx f
      · rw [if_pos hx, toInt_small x.val (by omega)]
        exact_mod_cast Fin.le_def.1 (hfirst x (hx.trans hm))
      · rw [if_neg hx, show (2048#32).toInt = 2048 by decide]
        omega

/-- The least lane that attains the maximum. -/
theorem first_at (s : FVec Ideal S1x2048 .f32) (i : Fin 2048) : first s (ix2 0 i) = BitVec.ofNat 32 (Sel.best (fn s)).val := by
  pointwise [first, lane, top_at]
  exact fold_first (fn s)

/-- The pick marks that lane. -/
theorem pick_at (s : FVec Ideal S1x2048 .f32) (i : Fin 2048) :
    pick s (ix2 0 i) = BitVec.ofBool (decide (i = Sel.best (fn s))) := by
  pointwise [pick, lane, first_at]
  have h : IntOp.cmpi .eq (BitVec.ofNat 32 i.val) (BitVec.ofNat 32 (Sel.best (fn s)).val)
      = BitVec.ofBool (decide (i.val = (Sel.best (fn s)).val)) := WordCmp.cmpi_eq_ofNat (by omega) (by omega)
  rw [h]
  simp only [Fin.ext_iff]

/-- The stored row is one on that lane and zero elsewhere. -/
theorem row_at (s : FVec Ideal S1x2048 .f32) (i : Fin 2048) :
    row s (ix2 0 i) = if i = Sel.best (fn s) then (1 : EReal) else 0 := by
  pointwise [row, pick_at]

/-- The scores after the pick. -/
theorem next_at (s : FVec Ideal S1x2048 .f32) (i : Fin 2048) :
    next s (ix2 0 i) = if i = Sel.best (fn s) then ((-1 : ℝ) : EReal) else s (ix2 0 i) := by
  pointwise [next, pick_at, pat_neg_one]

/-- The scores after `n` picks are the repeated pick's. -/
theorem state_at (s : FVec Ideal S1x2048 .f32) (n : Nat) : fn (state s n) = Sel.st (fn s) n := by
  induction n with
  | zero => rfl
  | succ n ih =>
    funext i
    rw [Sel.st, ← ih]
    exact next_at (state s n) i

/-- The stored row of pick `n`. -/
theorem row_state_at (s : FVec Ideal S1x2048 .f32) (n : Nat) (i : Fin 2048) :
    row (state s n) (ix2 0 i) = if i = Sel.sel (fn s) n then (1 : EReal) else 0 := by
  rw [row_at, state_at]
  rfl

/-- The sum of the first `n` blocks' column sums at a lane. -/
theorem cols_at (q : Nat → FVec Ideal S128x128 .f32) (k : Nat → FVec Ideal S2048x128 .f32) (n : Nat) (i : Fin 2048) :
    cols q k n (ix2 0 i) = ∑ m ∈ Finset.range n, term (q m) (k m) (ix2 0 i) := by
  induction n with
  | zero =>
    rw [Finset.sum_range_zero]
    pointwise [cols, k0_pay7]
  | succ n ih =>
    rw [Finset.sum_range_succ, ← ih]
    pointwise [cols]

/-- The stored block at an index: the layer norm of the input plus the joint output map. -/
theorem k1_pay1_at (e : FVec Ideal S1x1024x512 .f32) (o : FVec Ideal S1024x512 .f32) (w : FVec Ideal S512x512 .f32) (b g bb : FVec Ideal S1x512 .f32)
    (r : Fin 1024) (c : Fin 512) :
    k1_pay1 (F := Ideal) (k1_pay14 (F := Ideal) (k1_pay2 (F := Ideal) e) o w b g) (k1_pay15 (F := Ideal) bb) (ix3 0 r c)
      = Spec.norm (fun c => e (ix3 0 r c) + ((∑ k : Fin 512, o (ix2 r k) * w (ix2 k c)) + b (ix2 0 c))) (fun c => g (ix2 0 c))
          (fun c => bb (ix2 0 c)) c := by
  pointwise [k1_pay1, k1_pay14, k1_pay2, k1_pay15]
  rfl

end Cert.KernelIdeal.Pure

end
-- ==== Proof.Region1.lean ====
/- What the second region leaves in the result array. -/
module

public import proofs.«01_k».proof.Proof.Pure
public import Idealize.ShloMosaic.Lib.Pipeline.ReadBack
public import Idealize.ShloMosaic.Lib.Pipeline.ValueKit

@[expose] public section

set_option maxRecDepth 16384

noncomputable section

namespace Cert.KernelIdeal.Region1

open Idealize.ShloMosaic Idealize.ShloMosaic.TcCoe Idealize.SL.Sem
open Idealize.ShloMosaic.Pipeline (Dat)
open Cert.KernelIdeal Cert.KernelIdeal.Gen Cert.KernelIdeal.Steps Cert.KernelIdeal.Pure
open Cert.Spec (SC mx ex smr score hd)

/-- A block of columns of a loaded matrix at an index. -/
theorem ld_at {m n m' n' a o : Nat} (X : FVec Ideal (⟨2, ![m, n]⟩ : Shape) .f32)
    (inb : ∀ i, (![a, o] : Fin 2 → Nat) i + (⟨2, ![m', n']⟩ : Shape).size i ≤ (⟨2, ![m, n]⟩ : Shape).size i)
    (r : Fin m') (c : Fin n') (ha : a + r.val < m) (ho : o + c.val < n) :
    View.ld (Val := Elt Ideal) (e' := .f32) X (Rect.unit (s := (⟨2, ![m, n]⟩ : Shape)) ![a, o] (⟨2, ![m', n']⟩ : Shape).size inb) (ix2 r c)
      = X (ix2 ⟨a + r.val, ha⟩ ⟨o + c.val, ho⟩) := by
  refine congrArg X (funext fun i => Fin.ext ?_)
  fin_cases i
  · show a + 1 * r.val = a + r.val
    omega
  · show o + 1 * c.val = o + c.val
    omega

/-- The attention output at a row and a column: the masked softmax of the column's head over the picked rows, applied to the values. -/
def O (Q : FVec Ideal S1024x512 .f32) (K V : FVec Ideal S128x512 .f32) (r : Fin 1024) (c : Fin 512) : EReal :=
  ∑ n : Fin 128, smr (fun n => score (fun j => Q (ix2 r j)) (fun j => K (ix2 n j)) ⟨c.val / 128, by have := c.isLt; omega⟩
    + k1_pay4 (F := Ideal) (ix2 0 n)) n * V (ix2 n c)

/-- One head's output on its block of columns. -/
theorem head_ld (Q : FVec Ideal S1024x512 .f32) (K V : FVec Ideal S128x512 .f32) (h : Fin 4)
    (i1 : ∀ i, (![0, 128 * h.val] : Fin 2 → Nat) i + S1024x128.size i ≤ S1024x512.size i)
    (i2 : ∀ i, (![0, 128 * h.val] : Fin 2 → Nat) i + S128x128.size i ≤ S128x512.size i)
    (r : Fin 1024) (c : Fin 128) (hc : 128 * h.val + c.val < 512) :
    head (F := Ideal) (View.ld (Val := Elt Ideal) (e' := .f32) Q (Rect.unit (s := S1024x512) ![0, 128 * h.val] S1024x128.size i1))
      (View.ld (Val := Elt Ideal) (e' := .f32) K (Rect.unit (s := S128x512) ![0, 128 * h.val] S128x128.size i2))
      (View.ld (Val := Elt Ideal) (e' := .f32) V (Rect.unit (s := S128x512) ![0, 128 * h.val] S128x128.size i2)) (ix2 r c)
      = O Q K V r ⟨128 * h.val + c.val, hc⟩ := by
  have hh : (⟨(128 * h.val + c.val) / 128, by omega⟩ : Fin 4) = h := Fin.ext (by have := c.isLt; show (128 * h.val + c.val) / 128 = h.val; omega)
  have e0 : ∀ r : Fin 1024, (⟨0 + r.val, by have := r.isLt; omega⟩ : Fin 1024) = r := fun r => Fin.ext (Nat.zero_add _)
  have e1 : ∀ r : Fin 128, (⟨0 + r.val, by have := r.isLt; omega⟩ : Fin 128) = r := fun r => Fin.ext (Nat.zero_add _)
  refine (head_at _ _ _ r c).trans ?_
  unfold O score
  refine Finset.sum_congr rfl fun n _ => ?_
  refine congrArg₂ (· * ·) (congrArg (fun s => smr s n) (funext fun m => ?_)) ?_
  · refine congrArg (fun x => x * SC + k1_pay4 (F := Ideal) (ix2 0 m)) (Finset.sum_congr rfl fun d _ => ?_)
    have hd' : (⟨128 * h.val + d.val, by have := d.isLt; omega⟩ : Fin 512) = hd ⟨(128 * h.val + c.val) / 128, by omega⟩ d := by
      rw [hh]; exact Fin.ext (by show 128 * h.val + d.val = h.val * 128 + d.val; omega)
    rw [← hd']
    refine congrArg₂ (· * ·) ((ld_at Q i1 r d (by have := r.isLt; omega) (by have := d.isLt; omega)).trans ?_)
      ((ld_at K i2 m d (by have := m.isLt; omega) (by have := d.isLt; omega)).trans ?_)
    · rw [e0]
    · rw [e1]
  · refine (ld_at V i2 n c (by have := n.isLt; omega) hc).trans ?_
    rw [e1]

/-- One head's output, as a part of the attention output. -/
theorem head_piece (Q : FVec Ideal S1024x512 .f32) (K V : FVec Ideal S128x512 .f32) (h : Fin 4)
    (i1 i3 : ∀ i, (![0, 128 * h.val] : Fin 2 → Nat) i + S1024x128.size i ≤ S1024x512.size i)
    (i2 : ∀ i, (![0, 128 * h.val] : Fin 2 → Nat) i + S128x128.size i ≤ S128x512.size i) (x : S1024x128.Idx) :
    head (F := Ideal) (View.ld (Val := Elt Ideal) (e' := .f32) Q (Rect.unit (s := S1024x512) ![0, 128 * h.val] S1024x128.size i1))
      (View.ld (Val := Elt Ideal) (e' := .f32) K (Rect.unit (s := S128x512) ![0, 128 * h.val] S128x128.size i2))
      (View.ld (Val := Elt Ideal) (e' := .f32) V (Rect.unit (s := S128x512) ![0, 128 * h.val] S128x128.size i2)) x
      = (fun y : S1024x512.Idx => O Q K V (y 0) (y 1)) ((Rect.unit (s := S1024x512) ![0, 128 * h.val] S1024x128.size i3).emb x) := by
  obtain ⟨a, b, rfl⟩ : ∃ (a : Fin 1024) (b : Fin 128), x = ix2 a b := ⟨x 0, x 1, by funext i; fin_cases i <;> rfl⟩
  have hb : 128 * h.val + b.val < 512 := by have := b.isLt; have := h.isLt; omega
  refine (head_ld Q K V h i1 i2 a b hb).trans ?_
  exact congrArg₂ (O Q K V) (Fin.ext (by show a.val = 0 + 1 * a.val; omega))
    (Fin.ext (by show 128 * h.val + b.val = 128 * h.val + 1 * b.val; omega))

/-- An index of the buffer lies in the block of columns that holds its column. -/
theorem mem_cols (r : Fin 1024) (k : Fin 512) (o : Nat)
    (i0 : ∀ i, (![0, 0] : Fin 2 → Nat) i + S1024x512.size i ≤ S1024x512.size i)
    (i1 : ∀ i, (![0, o] : Fin 2 → Nat) i + S1024x128.size i ≤ S1024x512.size i) (h1 : o ≤ k.val) (h2 : k.val < o + 128) :
    (Rect.unit (s := S1024x512) ![0, 0] S1024x512.size i0).toLoadRect.idx (ix2 r k)
      ∈ (Rect.unit (s := S1024x512) ![0, o] S1024x128.size i1).set := by
  refine Rect.mem_set_unit.mpr fun a => ?_
  have := r.isLt
  fin_cases a
  · show 0 ≤ 0 + 1 * r.val ∧ 0 + 1 * r.val < 0 + 1024
    omega
  · show o ≤ 0 + 1 * k.val ∧ 0 + 1 * k.val < o + 128
    omega

/-- The scratch of the heads' outputs, at an index. -/
theorem v118_at (c : Dev nD) (arg1 : Memref sig .tc .vmem S1x1024x512 .f32) (harg1 : arg1.IsWhole)
    (arg2 : Memref sig .tc .vmem S512x512 .f32) (harg2 : arg2.IsWhole)
    (arg4 : Memref sig .tc .vmem S128x512 .f32) (harg4 : arg4.IsWhole)
    (arg5 : Memref sig .tc .vmem S128x512 .f32) (harg5 : arg5.IsWhole)
    (arg6 : Memref sig .tc .vmem S1x512 .f32) (harg6 : arg6.IsWhole)
    (arg11 arg12 : Memref sig .tc .vmem S1024x512 .f32)
    (x0 : Vec Ideal S1x1024x512 .f32) (x1 : Vec Ideal S512x512 .f32) (x3 x4 : Vec Ideal S128x512 .f32) (x5 : Vec Ideal S1x512 .f32)
    (r : Fin 1024) (k : Fin 512) :
    kernelRun1_A.sl.v118 (F := Ideal) c arg1 harg1 arg2 harg2 arg4 harg4 arg5 harg5 arg6 harg6 arg11 arg12 x0 x1 x3 x4 x5 (ix2 r k)
      = O (k1_pay3 (F := Ideal) x0 x1 x5) x3 x4 r k := by
  unfold kernelRun1_A.sl.v118
  rw [heads_eq, View.readCov_eq_canon']
  unfold kernelRun1_A.sl.HS0_1
  simp (disch := decide) only [View.readCov_fill, View.ld_unit_lit', View.readAt_eq_ld, Memref.IsWhole.read_unread]
  refine (View.canon_apply_of_pieces (fun y : S1024x512.Idx => O (k1_pay3 (F := Ideal) x0 x1 x5) x3 x4 (y 0) (y 1)) _
    ?_ _ ?_).trans ?_
  · exact List.forall_mem_cons.2 ⟨fun x => head_piece _ _ _ 3 _ inb_S1024x512_S1024x128_0_384 _ x, List.forall_mem_cons.2 ⟨fun x => head_piece _ _ _ 2 _ inb_S1024x512_S1024x128_0_256 _ x,
      List.forall_mem_cons.2 ⟨fun x => head_piece _ _ _ 1 _ inb_S1024x512_S1024x128_0_128 _ x, List.forall_mem_cons.2 ⟨fun x => head_piece _ _ _ 0 _ inb_S1024x512_S1024x128_0_0 _ x,
        fun p hp => absurd hp List.not_mem_nil⟩⟩⟩⟩
  · have hk := k.isLt
    have hr := r.isLt
    rcases (by omega : k.val / 128 = 0 ∨ k.val / 128 = 1 ∨ k.val / 128 = 2 ∨ k.val / 128 = 3) with h | h | h | h
    · exact ⟨_, .tail _ (.tail _ (.tail _ (.head _))), mem_cols r k 0 _ inb_S1024x512_S1024x128_0_0 (by omega) (by omega)⟩
    · exact ⟨_, .tail _ (.tail _ (.head _)), mem_cols r k 128 _ inb_S1024x512_S1024x128_0_128 (by omega) (by omega)⟩
    · exact ⟨_, .tail _ (.head _), mem_cols r k 256 _ inb_S1024x512_S1024x128_0_256 (by omega) (by omega)⟩
    · exact ⟨_, .head _, mem_cols r k 384 _ inb_S1024x512_S1024x128_0_384 (by omega) (by omega)⟩
  · exact congrArg₂ (O (k1_pay3 (F := Ideal) x0 x1 x5) x3 x4) (Fin.ext (by show 0 + 1 * r.val = r.val; omega))
      (Fin.ext (by show 0 + 1 * k.val = k.val; omega))

/-- The block that one grid point leaves, at an index. -/
theorem out_at (c : Dev nD) (i : grid1.Coords) (arg1 : Memref sig .tc .vmem S1x1024x512 .f32) (harg1 : arg1.IsWhole)
    (arg2 : Memref sig .tc .vmem S512x512 .f32) (harg2 : arg2.IsWhole)
    (arg3 : Memref sig .tc .vmem S512x512 .f32) (harg3 : arg3.IsWhole)
    (arg4 : Memref sig .tc .vmem S128x512 .f32) (harg4 : arg4.IsWhole)
    (arg5 : Memref sig .tc .vmem S128x512 .f32) (harg5 : arg5.IsWhole)
    (arg6 : Memref sig .tc .vmem S1x512 .f32) (harg6 : arg6.IsWhole)
    (arg7 : Memref sig .tc .vmem S1x512 .f32) (harg7 : arg7.IsWhole)
    (arg8 : Memref sig .tc .vmem S1x512 .f32) (harg8 : arg8.IsWhole)
    (arg9 : Memref sig .tc .vmem S1x512 .f32) (harg9 : arg9.IsWhole)
    (arg10 : Memref sig .tc .vmem S1x1024x512 .f32) (harg10 : arg10.IsWhole)
    (arg11 : Memref sig .tc .vmem S1024x512 .f32) (harg11 : arg11.IsWhole)
    (arg12 : Memref sig .tc .vmem S1024x512 .f32) (harg12 : arg12.IsWhole)
    (x0 : Vec Ideal S1x1024x512 .f32) (x1 x2 : Vec Ideal S512x512 .f32) (x3 x4 : Vec Ideal S128x512 .f32)
    (x5 x6 x7 x8 : Vec Ideal S1x512 .f32) (r : Fin 1024) (k : Fin 512) :
    out1_A_9 (F := Ideal) c i arg1 harg1 arg2 harg2 arg3 harg3 arg4 harg4 arg5 harg5 arg6 harg6 arg7 harg7 arg8 harg8 arg9 harg9
        arg10 harg10 arg11 harg11 arg12 harg12 x0 x1 x2 x3 x4 x5 x6 x7 x8 (ix3 0 r k)
      = Spec.norm (fun c => x0 (ix3 0 r c) + ((∑ k, O (k1_pay3 (F := Ideal) x0 x1 x5) x3 x4 r k * x2 (ix2 k c)) + x6 (ix2 0 c)))
          (fun c => x7 (ix2 0 c)) (fun c => x8 (ix2 0 c)) k := by
  unfold out1_A_9
  rw [View.read_writes_junk_eq_canon]
  unfold kernelRun1_A
  dsimp only
  unfold kernelRun1_A.sl.r_6 kernelRun1_A.sl.r_7 kernelRun1_A.sl.r
  simp (disch := decide) only [View.canon_cons_unit_lit', View.ld_unit_lit', View.readAt_eq_ld, Memref.IsWhole.read_unread]
  refine (k1_pay1_at x0 _ x2 x6 x7 x8 r k).trans ?_
  refine congrArg (fun f => Spec.norm f (fun c => x7 (ix2 0 c)) (fun c => x8 (ix2 0 c)) k) (funext fun m => ?_)
  refine congrArg (fun s => x0 (ix3 0 r m) + (s + x6 (ix2 0 m))) (Finset.sum_congr rfl fun n _ => ?_)
  rw [v118_at]

/-- Where each window of the second region stands at a point. -/
theorem idx : ∀ t : Fin cfg1.N, (cfg1.win 0).index t = ![t.val, 0, 0] ∧ (cfg1.win 1).index t = ![0, 0] ∧ (cfg1.win 2).index t = ![0, 0]
    ∧ (cfg1.win 3).index t = ![0, 0] ∧ (cfg1.win 4).index t = ![0, 0] ∧ (cfg1.win 5).index t = ![0, 0] ∧ (cfg1.win 6).index t = ![0, 0]
    ∧ (cfg1.win 7).index t = ![0, 0] ∧ (cfg1.win 8).index t = ![0, 0] ∧ (cfg1.win 9).index t = ![t.val, 0, 0] :=
  (by decide +kernel : ∀ t : Fin grid1.N, _)

variable (V : (c : Dev nD) → (b : Ref sig .tc) → Buf (Elt Ideal) ((c : Thread nD τ).loc b))

/-- The features' block that point `t` reads: batch element `t` of the array at the region's start. -/
theorem blk0_at (c : Dev nD) (t : Fin cfg1.N) (r : Fin 1024) (k : Fin 512) (b : Fin 8) (hb : b.val = t.val) :
    iblk1 (F := Ideal) V c 0 t (ix3 0 r k) = V c main_arg1 (ix3 b r k) := by
  blk_ext [iblk1, idx t]

/-- The other blocks that a point reads are the arrays at the region's start. -/
theorem blks (c : Dev nD) (t : Fin cfg1.N) : iblk1 (F := Ideal) V c 1 t = V c main_v1 ∧ iblk1 (F := Ideal) V c 2 t = V c main_v13_2 ∧ iblk1 (F := Ideal) V c 3 t = V c main_v13_0
    ∧ iblk1 (F := Ideal) V c 4 t = V c main_v13_1 ∧ iblk1 (F := Ideal) V c 5 t = V c main_v14 ∧ iblk1 (F := Ideal) V c 6 t = V c main_v13_3
    ∧ iblk1 (F := Ideal) V c 7 t = V c main_v15 ∧ iblk1 (F := Ideal) V c 8 t = V c main_v16 := by
  refine ⟨?_, ?_, ?_, ?_, ?_, ?_, ?_, ?_⟩ <;>
    (funext i; blk_ext [iblk1, idx t])

/-- The queries of one batch element. -/
def Q (E : FVec Ideal S8x1024x512 .f32) (wq : FVec Ideal S512x512 .f32) (bq : FVec Ideal S1x512 .f32) (b : Fin 8) :
    FVec Ideal S1024x512 .f32 :=
  fun i => (∑ k : Fin 512, E (ix3 b (i 0) k) * wq (ix2 k (i 1))) + bq (ix2 0 (i 1))

/-- The region's result over its nine arrays: attention over the picked rows, the joint output map, the residual and the normalization. -/
def res (E : FVec Ideal S8x1024x512 .f32) (wq we : FVec Ideal S512x512 .f32) (K W : FVec Ideal S128x512 .f32)
    (bq be g bb : FVec Ideal S1x512 .f32) (b : Fin 8) (r : Fin 1024) (k : Fin 512) : EReal :=
  Spec.norm (fun c => E (ix3 b r c) + ((∑ k, O (Q E wq bq b) K W r k * we (ix2 k c)) + be (ix2 0 c)))
    (fun c => g (ix2 0 c)) (fun c => bb (ix2 0 c)) k

/-- The result array after the last point, at an index, over the arrays at the region's start. -/
theorem final (c : Dev nD) (b : Fin 8) (r : Fin 1024) (k : Fin 512) :
    (dat1 (F := Ideal) V c).arrAt 9 cfg1.N (ix3 b r k)
      = res (V c main_arg1) (V c main_v1) (V c main_v13_2) (V c main_v13_0) (V c main_v13_1) (V c main_v14) (V c main_v13_3)
          (V c main_v15) (V c main_v16) b r k := by
  have h : (dat1 (F := Ideal) V c).arrAt 9 cfg1.N
      = fun i : S8x1024x512.Idx => res (V c main_arg1) (V c main_v1) (V c main_v13_2) (V c main_v13_0) (V c main_v13_1) (V c main_v14)
          (V c main_v13_3) (V c main_v15) (V c main_v16) (i 0) (i 1) (i 2) := by
    refine (dat1 (F := Ideal) V c).arrAt_eq_of_covers 9 _ (by decide +kernel) fun t hf y => ?_
    blk_simp
    rw [after1_9]
    unfold outsAt1
    obtain ⟨r', k', rfl⟩ : ∃ (r' : Fin 1024) (k' : Fin 512), y = ix3 (0 : Fin 1) r' k' :=
      ⟨y 1, y 2, by funext i; fin_cases i <;> first | rfl | exact Subsingleton.elim (α := Fin 1) _ _⟩
    have e0 : (((win1_9.blk t).view.emb (ix3 (0 : Fin 1) r' k') : S8x1024x512.Idx) 0).val = t.val := by
      blk_simp [idx t]
      rfl
    have e1 : ((win1_9.blk t).view.emb (ix3 (0 : Fin 1) r' k') : S8x1024x512.Idx) 1 = r' := Fin.ext (by
      blk_simp [idx t])
    have e2 : ((win1_9.blk t).view.emb (ix3 (0 : Fin 1) r' k') : S8x1024x512.Idx) 2 = k' := Fin.ext (by
      blk_simp [idx t])
    obtain ⟨b1, b2, b3, b4, b5, b6, b7, b8⟩ := blks V c t
    refine (out_at _ _ _ _ _ _ _ _ _ _ _ _ _ _ _ _ _ _ _ _ _ _ _ _ _ _ _ _ _ _ _ _ _ _ _ r' k').trans ?_
    refine Eq.trans ?_ (congrArg₂ (res (V c main_arg1) (V c main_v1) (V c main_v13_2) (V c main_v13_0) (V c main_v13_1) (V c main_v14)
      (V c main_v13_3) (V c main_v15) (V c main_v16) _) e1.symm e2.symm)
    have hQ : k1_pay3 (F := Ideal) (iblk1 (F := Ideal) V c 0 t) (iblk1 (F := Ideal) V c 1 t) (iblk1 (F := Ideal) V c 5 t)
        = Q (V c main_arg1) (V c main_v1) (V c main_v14) (((win1_9.blk t).view.emb (ix3 (0 : Fin 1) r' k') : S8x1024x512.Idx) 0) := by
      funext i
      obtain ⟨a, b, rfl⟩ : ∃ (a : Fin 1024) (b : Fin 512), i = ix2 a b := ⟨i 0, i 1, by funext i; fin_cases i <;> rfl⟩
      refine (k1_pay3_at _ _ _ a b).trans ?_
      rw [b1, b5]
      refine congrArg (fun s => s + V c main_v14 (ix2 0 b)) (Finset.sum_congr rfl fun n _ => ?_)
      exact congrArg (fun s => s * V c main_v1 (ix2 n b)) (blk0_at V c t a n _ e0)
    rw [hQ, b2, b3, b4, b6, b7, b8]
    refine congrArg (fun f => Spec.norm f _ _ k') (funext fun m => ?_)
    exact congrArg (fun s => s + _) (blk0_at V c t r' m _ e0)
  exact congrFun h (ix3 b r k)

end Cert.KernelIdeal.Region1

end
-- ==== Proof.Region0.lean ====
/- What the first region leaves in its four result arrays. -/
module

public import proofs.«01_k».proof.Proof.Region1

@[expose] public section

set_option maxRecDepth 16384

noncomputable section

namespace Cert.KernelIdeal.Region0

open Idealize.ShloMosaic Idealize.ShloMosaic.TcCoe Idealize.SL.Sem
open Idealize.ShloMosaic.Pipeline (Dat)
open Cert.KernelIdeal Cert.KernelIdeal.Gen Cert.KernelIdeal.Steps Cert.KernelIdeal.Pure
open Cert.KernelIdeal.Region1 (ld_at)
open Cert.Spec (SC mx ex smr score hd)

/-- The column sums of the masked softmaxes of all the query rows and heads, over the query and key arrays. -/
def w (Q0 : FVec Ideal S1024x512 .f32) (K0 : FVec Ideal S2048x512 .f32) (i : Fin 2048) : EReal :=
  ∑ h : Fin 4, ∑ t : Fin 1024,
    smr (fun n : Fin 2048 => score (fun j => Q0 (ix2 t j)) (fun j => K0 (ix2 n j)) h + k0_pay6 (F := Ideal) (ix2 0 n)) i

/-- The pick matrix: row `r` is one on pick `r`'s lane, for the first hundred and one rows. -/
def pm (f : Fin 2048 → EReal) (r : Fin 128) (i : Fin 2048) : EReal := if r.val < 101 ∧ i = Sel.sel f r.val then 1 else 0

/-- One block's scores over parts of the query and key arrays. -/
theorem score_ld (Q0 : FVec Ideal S1024x512 .f32) (K0 : FVec Ideal S2048x512 .f32) (h : Fin 4) (a : Fin 8) (m : Nat) (hm : m = h.val * 8 + a.val)
    (r : Fin 128) (n : Fin 2048) (t : Fin 1024) (ht : t.val = a.val * 128 + r.val) :
    (∑ d : Fin 128, View.ld (Val := Elt Ideal) (e' := .f32) Q0 (Rect.unit (s := S1024x512) ![128 * (m % 8), 128 * (m / 8 % 4)] S128x128.size (inbQ m)) (ix2 r d)
      * View.ld (Val := Elt Ideal) (e' := .f32) K0 (Rect.unit (s := S2048x512) ![0, 128 * (m / 8 % 4)] S2048x128.size (inbK m)) (ix2 n d)) * SC
      = score (fun j => Q0 (ix2 t j)) (fun j => K0 (ix2 n j)) h := by
  have h1 : m % 8 = a.val := by have := a.isLt; omega
  have h2 : m / 8 % 4 = h.val := by have := a.isLt; have := h.isLt; omega
  unfold score
  refine congrArg (· * SC) (Finset.sum_congr rfl fun d _ => ?_)
  have hd' := d.isLt
  have hh := h.isLt
  have hr := r.isLt
  have ha := a.isLt
  refine congrArg₂ (· * ·) ((ld_at Q0 (inbQ m) r d (by omega) (by omega)).trans ?_) ((ld_at K0 (inbK m) n d (by have := n.isLt; omega) (by omega)).trans ?_)
  · exact congrArg₂ (fun x y => Q0 (ix2 x y)) (Fin.ext (by show 128 * (m % 8) + r.val = t.val; omega))
      (Fin.ext (by show 128 * (m / 8 % 4) + d.val = h.val * 128 + d.val; omega))
  · exact congrArg₂ (fun x y => K0 (ix2 x y)) (Fin.ext (by show 0 + n.val = n.val; omega))
      (Fin.ext (by show 128 * (m / 8 % 4) + d.val = h.val * 128 + d.val; omega))

section Run

variable (c : Dev nD) (arg0 : Memref sig .tc .vmem S2048x512 .f32) (harg0 : arg0.IsWhole)
    (arg1 : Memref sig .tc .vmem S1024x512 .f32) (harg1 : arg1.IsWhole)
    (arg2 : Memref sig .tc .vmem S512x512 .f32) (harg2 : arg2.IsWhole)
    (arg3 : Memref sig .tc .vmem S512x512 .f32) (harg3 : arg3.IsWhole)
    (arg7 : Memref sig .tc .vmem S1x512 .f32) (harg7 : arg7.IsWhole)
    (arg8 : Memref sig .tc .vmem S1x512 .f32) (harg8 : arg8.IsWhole)
    (arg16 : Memref sig .tc .vmem S1024x512 .f32) (arg17 : Memref sig .tc .vmem S2048x512 .f32) (arg18 : Memref sig .tc .vmem S128x2048 .f32)
    (x0 : Vec Ideal S2048x512 .f32) (x1 : Vec Ideal S1024x512 .f32) (x2 : Vec Ideal S512x512 .f32) (x3 : Vec Ideal S512x512 .f32)
    (x7 : Vec Ideal S1x512 .f32) (x8 : Vec Ideal S1x512 .f32)

/-- The column sums that the region computes. -/
theorem v674_at : fn (kernelRun0_A.sl.v674 (F := Ideal) c arg0 harg0 arg1 harg1 arg2 harg2 arg3 harg3 arg7 harg7 arg8 harg8 arg16 arg17 x0 x1 x2 x3 x7 x8)
    = w (k0_pay4 (F := Ideal) x1 x2 x7) (k0_pay5 (F := Ideal) x0 x3 x8) := by
  funext i
  unfold fn
  rw [cols_eq, cols_at, Finset.sum_range, Fin.sum_univ_tiles 4 8 rfl]
  unfold w
  refine Finset.sum_congr rfl fun h _ => ?_
  rw [Fin.sum_univ_tiles 8 128 rfl]
  refine Finset.sum_congr rfl fun a _ => ?_
  rw [term_at]
  refine Finset.sum_congr rfl fun r _ => ?_
  refine congrArg (fun s => smr s i) (funext fun n => ?_)
  refine congrArg (fun s => s + k0_pay6 (F := Ideal) (ix2 0 n)) ?_
  unfold loadQ loadK kernelRun0_A.sl.HS0_1 kernelRun0_A.sl.HS1_1
  simp (disch := decide) only [View.readCov_fill, View.ld_unit_lit', View.readAt_eq_ld, Memref.IsWhole.read_unread]
  exact score_ld _ _ h a _ rfl r n _ rfl

/-- The first `n` stored rows over the zero fill, at an index. -/
theorem rows_at (s : FVec Ideal S1x2048 .f32) (n : Nat) (h : n ≤ 128) (r : Fin 128) (i : Fin 2048) :
    View.canon (Val := Elt Ideal) (rows s n h) (ix2 r i) = if r.val < n then row (state s r.val) (ix2 0 i) else 0 := by
  induction n with
  | zero =>
    rw [if_neg (Nat.not_lt_zero _)]
    unfold rows
    rw [View.canon_cons_unit_lit' _ _ _ (by decide)]
    pointwise [k0_pay44]
  | succ n ih =>
    unfold rows
    by_cases hr : r.val = n
    · subst hr
      rw [if_pos (Nat.lt_succ_self _)]
      refine Eq.trans ?_ (View.canon_cons_emb (Val := Elt Ideal) (e := .f32) (Rect.unit (s := S128x2048) ![r.val, 0] S1x2048.size (inbRow r.val h))
        (row (state s r.val)) (rows s r.val (Nat.le_of_succ_le h)) (ix2 (0 : Fin 1) i))
      refine congrArg _ (funext fun a => Fin.ext ?_)
      fin_cases a
      · show r.val = r.val + 1 * 0
        omega
      · show i.val = 0 + 1 * i.val
        omega
    · rw [View.canon_cons_of_not_mem, ih (Nat.le_of_succ_le h)]
      · simp only [show (r.val < n + 1) = (r.val < n) from propext (by omega)]
      · intro hm
        have h1 : n ≤ r.val ∧ r.val < n + 1 := (Rect.mem_set_unit (s := S128x2048) (inb := inbRow n h)).mp hm 0
        omega

/-- The pick matrix that the region computes. -/
theorem v2495_at (r : Fin 128) (i : Fin 2048) :
    kernelRun0_A.sl.v2495 (F := Ideal) c arg0 harg0 arg1 harg1 arg2 harg2 arg3 harg3 arg7 harg7 arg8 harg8 arg16 arg17 arg18 x0 x1 x2 x3 x7 x8 (ix2 r i)
      = pm (w (k0_pay4 (F := Ideal) x1 x2 x7) (k0_pay5 (F := Ideal) x0 x3 x8)) r i := by
  unfold kernelRun0_A.sl.v2495
  rw [rows_eq, View.readCov_eq_canon']
  refine Eq.trans (congrArg _ (?_ : _ = ix2 r i)) ((rows_at _ 101 _ r i).trans ?_)
  · funext a
    refine Fin.ext ?_
    fin_cases a
    · show 0 + 1 * r.val = r.val
      omega
    · show 0 + 1 * i.val = i.val
      omega
  · rw [row_state_at, v674_at]
    unfold pm
    by_cases hr : r.val < 101 <;> simp [hr]

variable (arg4 : Memref sig .tc .vmem S512x512 .f32) (harg4 : arg4.IsWhole)
    (arg5 : Memref sig .tc .vmem S512x512 .f32) (harg5 : arg5.IsWhole)
    (arg6 : Memref sig .tc .vmem S512x512 .f32) (harg6 : arg6.IsWhole)
    (arg9 : Memref sig .tc .vmem S1x512 .f32) (harg9 : arg9.IsWhole)
    (arg10 : Memref sig .tc .vmem S1x512 .f32) (harg10 : arg10.IsWhole)
    (arg11 : Memref sig .tc .vmem S1x512 .f32) (harg11 : arg11.IsWhole)
    (arg12 : Memref sig .tc .vmem S128x512 .f32) (harg12 : arg12.IsWhole)
    (arg13 : Memref sig .tc .vmem S128x512 .f32) (harg13 : arg13.IsWhole)
    (arg14 : Memref sig .tc .vmem S512x512 .f32) (harg14 : arg14.IsWhole)
    (arg15 : Memref sig .tc .vmem S1x512 .f32) (harg15 : arg15.IsWhole)
    (harg16 : arg16.IsWhole) (harg17 : arg17.IsWhole) (harg18 : arg18.IsWhole)
    (x4 x5 x6 : Vec Ideal S512x512 .f32) (x9 x10 x11 : Vec Ideal S1x512 .f32)

/-- The picked rows of a matrix. -/
def pk (f : Fin 2048 → EReal) (X : FVec Ideal S2048x512 .f32) (r : Fin 128) (k : Fin 512) : EReal := ∑ i : Fin 2048, pm f r i * X (ix2 i k)

/-- The picked rows under a linear map. -/
def lk (f : Fin 2048 → EReal) (X : FVec Ideal S2048x512 .f32) (m : FVec Ideal S512x512 .f32) (b : FVec Ideal S1x512 .f32) (r : Fin 128) (k : Fin 512) : EReal :=
  (∑ j : Fin 512, pk f X r j * m (ix2 j k)) + b (ix2 0 k)

/-- The picks' product with the context block. -/
theorem pay380_pk (r : Fin 128) (k : Fin 512) :
    k0_pay380 (F := Ideal) (kernelRun0_A.sl.v2495 (F := Ideal) c arg0 harg0 arg1 harg1 arg2 harg2 arg3 harg3 arg7 harg7 arg8 harg8 arg16 arg17 arg18 x0 x1 x2 x3 x7 x8)
        x0 (ix2 r k)
      = pk (w (k0_pay4 (F := Ideal) x1 x2 x7) (k0_pay5 (F := Ideal) x0 x3 x8)) x0 r k := by
  rw [pay380_at]
  exact Finset.sum_congr rfl fun i _ => congrArg (· * x0 (ix2 i k)) (v2495_at c arg0 harg0 arg1 harg1 arg2 harg2 arg3 harg3 arg7 harg7 arg8 harg8 arg16 arg17 arg18 x0 x1 x2 x3 x7 x8 r i)

/-- The picked rows' keys. -/
theorem out12_at (r : Fin 128) (k : Fin 512) :
    out0_A_12 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix2 r k)
      = lk (w (k0_pay4 (F := Ideal) x1 x2 x7) (k0_pay5 (F := Ideal) x0 x3 x8)) x0 x3 x8 r k := by
  unfold out0_A_12
  rw [View.read_writes_junk_eq_canon]
  unfold kernelRun0_A
  dsimp only
  simp (disch := decide) only [View.canon_cons_unit_lit', View.ld_unit_lit', View.readAt_eq_ld, Memref.IsWhole.read_unread]
  refine (pay381_at _ x0 x3 x8 r k).trans ?_
  refine congrArg (fun s => s + x8 (ix2 0 k)) (Finset.sum_congr rfl fun j _ => ?_)
  exact congrArg (fun s => s * x3 (ix2 j k)) (pay380_pk c arg0 harg0 arg1 harg1 arg2 harg2 arg3 harg3 arg7 harg7 arg8 harg8 arg16 arg17 arg18 x0 x1 x2 x3 x7 x8 r j)

/-- The picked rows' values. -/
theorem out13_at (r : Fin 128) (k : Fin 512) :
    out0_A_13 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix2 r k)
      = lk (w (k0_pay4 (F := Ideal) x1 x2 x7) (k0_pay5 (F := Ideal) x0 x3 x8)) x0 x4 x9 r k := by
  unfold out0_A_13
  rw [View.read_writes_junk_eq_canon]
  unfold kernelRun0_A
  dsimp only
  unfold kernelRun0_A.sl.r_2
  simp (disch := decide) only [View.canon_cons_unit_lit', View.ld_unit_lit', View.readAt_eq_ld, Memref.IsWhole.read_unread]
  refine (pay1_at _ x4 x9 r k).trans ?_
  refine congrArg (fun s => s + x9 (ix2 0 k)) (Finset.sum_congr rfl fun j _ => ?_)
  exact congrArg (fun s => s * x4 (ix2 j k)) (pay380_pk c arg0 harg0 arg1 harg1 arg2 harg2 arg3 harg3 arg7 harg7 arg8 harg8 arg16 arg17 arg18 x0 x1 x2 x3 x7 x8 r j)

/-- The joint output matrix. -/
theorem out14_at (r k : Fin 512) :
    out0_A_14 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix2 r k)
      = ∑ j : Fin 512, x5 (ix2 r j) * x6 (ix2 j k) := by
  unfold out0_A_14
  rw [View.read_writes_junk_eq_canon]
  unfold kernelRun0_A
  dsimp only
  simp (disch := decide) only [View.canon_cons_unit_lit', View.ld_unit_lit', View.readAt_eq_ld, Memref.IsWhole.read_unread]
  exact pay2_at x5 x6 r k

/-- The joint output offset. -/
theorem out15_at (k : Fin 512) :
    out0_A_15 (F := Ideal) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 x0 x1 x2 x3 x4 x5 x6 x7 x8 x9 x10 x11 (ix2 0 k)
      = (∑ j : Fin 512, x10 (ix2 0 j) * x6 (ix2 j k)) + x11 (ix2 0 k) := by
  unfold out0_A_15
  rw [View.read_writes_junk_eq_canon]
  unfold kernelRun0_A
  dsimp only
  simp (disch := decide) only [View.canon_cons_unit_lit', View.ld_unit_lit', View.readAt_eq_ld, Memref.IsWhole.read_unread]
  exact pay3_at x10 x6 x11 k

end Run

/-- Every block that the first region reads starts at its array's start. -/
theorem idx : ∀ t : Fin cfg0.N, (cfg0.win 0).index t = ![0, 0] ∧ (cfg0.win 1).index t = ![0, 0] ∧ (cfg0.win 2).index t = ![0, 0]
    ∧ (cfg0.win 3).index t = ![0, 0] ∧ (cfg0.win 4).index t = ![0, 0] ∧ (cfg0.win 5).index t = ![0, 0] ∧ (cfg0.win 6).index t = ![0, 0]
    ∧ (cfg0.win 7).index t = ![0, 0] ∧ (cfg0.win 8).index t = ![0, 0] ∧ (cfg0.win 9).index t = ![0, 0] ∧ (cfg0.win 10).index t = ![0, 0] ∧ (cfg0.win 11).index t = ![0, 0] :=
  (by decide +kernel : ∀ t : Fin grid0.N, _)

variable (V : (c : Dev nD) → (b : Ref sig .tc) → Buf (Elt Ideal) ((c : Thread nD τ).loc b))

set_option maxHeartbeats 1000000 in
/-- The blocks that the region reads are the arrays at its start. -/
theorem blks (c : Dev nD) (t : Fin cfg0.N) : iblk0 (F := Ideal) V c 0 t = V c main_v0 ∧ iblk0 (F := Ideal) V c 1 t = V c main_v7 ∧ iblk0 (F := Ideal) V c 2 t = V c main_v1
    ∧ iblk0 (F := Ideal) V c 3 t = V c main_v2 ∧ iblk0 (F := Ideal) V c 4 t = V c main_v3 ∧ iblk0 (F := Ideal) V c 5 t = V c main_v4
    ∧ iblk0 (F := Ideal) V c 6 t = V c main_v5 ∧ iblk0 (F := Ideal) V c 7 t = V c main_v8 ∧ iblk0 (F := Ideal) V c 8 t = V c main_v9
    ∧ iblk0 (F := Ideal) V c 9 t = V c main_v10 ∧ iblk0 (F := Ideal) V c 10 t = V c main_v11 ∧ iblk0 (F := Ideal) V c 11 t = V c main_v12 := by
  refine ⟨?_, ?_, ?_, ?_, ?_, ?_, ?_, ?_, ?_, ?_, ?_, ?_⟩ <;>
    (funext i; blk_ext [iblk0, idx t])

/-- The scores of the context rows, over the arrays at the region's start. -/
def fw (c : Dev nD) : Fin 2048 → EReal :=
  w (k0_pay4 (F := Ideal) (V c main_v7) (V c main_v1) (V c main_v8)) (k0_pay5 (F := Ideal) (V c main_v0) (V c main_v2) (V c main_v9))

/-- The keys' array after the region, at an index. -/
theorem final12 (c : Dev nD) (r : Fin 128) (k : Fin 512) :
    (dat0 (F := Ideal) V c).arrAt 12 cfg0.N (ix2 r k) = lk (fw V c) (V c main_v0) (V c main_v2) (V c main_v9) r k := by
  have h : (dat0 (F := Ideal) V c).arrAt 12 cfg0.N
      = fun i : S128x512.Idx => lk (fw V c) (V c main_v0) (V c main_v2) (V c main_v9) (i 0) (i 1) := by
    refine (dat0 (F := Ideal) V c).arrAt_eq_of_after_last 12 t0_0 (by decide +kernel) _ fun j => ?_
    blk_simp
    rw [after0_12]
    unfold outsAt0
    dsimp only
    obtain ⟨a, b, rfl⟩ : ∃ (a : Fin 128) (b : Fin 512), j = ix2 a b := ⟨j 0, j 1, by funext i; fin_cases i <;> rfl⟩
    obtain ⟨b0, b1, b2, b3, b4, b5, b6, b7, b8, b9, b10, b11⟩ := blks V c t0_0
    rw [b0, b1, b2, b3, b4, b5, b6, b7, b8, b9, b10, b11]
    apply out12_at
  exact congrFun h (ix2 r k)

/-- The values' array after the region, at an index. -/
theorem final13 (c : Dev nD) (r : Fin 128) (k : Fin 512) :
    (dat0 (F := Ideal) V c).arrAt 13 cfg0.N (ix2 r k) = lk (fw V c) (V c main_v0) (V c main_v3) (V c main_v10) r k := by
  have h : (dat0 (F := Ideal) V c).arrAt 13 cfg0.N
      = fun i : S128x512.Idx => lk (fw V c) (V c main_v0) (V c main_v3) (V c main_v10) (i 0) (i 1) := by
    refine (dat0 (F := Ideal) V c).arrAt_eq_of_after_last 13 t0_0 (by decide +kernel) _ fun j => ?_
    blk_simp
    rw [after0_13]
    unfold outsAt0
    dsimp only
    obtain ⟨a, b, rfl⟩ : ∃ (a : Fin 128) (b : Fin 512), j = ix2 a b := ⟨j 0, j 1, by funext i; fin_cases i <;> rfl⟩
    obtain ⟨b0, b1, b2, b3, b4, b5, b6, b7, b8, b9, b10, b11⟩ := blks V c t0_0
    rw [b0, b1, b2, b3, b4, b5, b6, b7, b8, b9, b10, b11]
    apply out13_at
  exact congrFun h (ix2 r k)

/-- The product of two matrices at an index. -/
def mm (x y : FVec Ideal S512x512 .f32) (r k : Fin 512) : EReal := ∑ j : Fin 512, x (ix2 r j) * y (ix2 j k)

/-- A row under a linear map. -/
def vm (x : FVec Ideal S1x512 .f32) (y : FVec Ideal S512x512 .f32) (b : FVec Ideal S1x512 .f32) (k : Fin 512) : EReal :=
  (∑ j : Fin 512, x (ix2 0 j) * y (ix2 j k)) + b (ix2 0 k)

/-- The joint output matrix's array after the region, at an index. -/
theorem final14 (c : Dev nD) (r k : Fin 512) :
    (dat0 (F := Ideal) V c).arrAt 14 cfg0.N (ix2 r k) = mm (V c main_v4) (V c main_v5) r k := by
  have h : (dat0 (F := Ideal) V c).arrAt 14 cfg0.N
      = fun i : S512x512.Idx => mm (V c main_v4) (V c main_v5) (i 0) (i 1) := by
    refine (dat0 (F := Ideal) V c).arrAt_eq_of_after_last 14 t0_0 (by decide +kernel) _ fun j => ?_
    blk_simp
    rw [after0_14]
    unfold outsAt0
    dsimp only
    obtain ⟨a, b, rfl⟩ : ∃ (a : Fin 512) (b : Fin 512), j = ix2 a b := ⟨j 0, j 1, by funext i; fin_cases i <;> rfl⟩
    obtain ⟨b0, b1, b2, b3, b4, b5, b6, b7, b8, b9, b10, b11⟩ := blks V c t0_0
    rw [b0, b1, b2, b3, b4, b5, b6, b7, b8, b9, b10, b11]
    apply out14_at
  exact congrFun h (ix2 r k)

/-- The joint output offset's array after the region, at an index. -/
theorem final15 (c : Dev nD) (k : Fin 512) :
    (dat0 (F := Ideal) V c).arrAt 15 cfg0.N (ix2 0 k) = vm (V c main_v11) (V c main_v5) (V c main_v12) k := by
  have h : (dat0 (F := Ideal) V c).arrAt 15 cfg0.N
      = fun i : S1x512.Idx => vm (V c main_v11) (V c main_v5) (V c main_v12) (i 1) := by
    refine (dat0 (F := Ideal) V c).arrAt_eq_of_after_last 15 t0_0 (by decide +kernel) _ fun j => ?_
    blk_simp
    rw [after0_15]
    unfold outsAt0
    dsimp only
    obtain ⟨a, b, rfl⟩ : ∃ (a : Fin 1) (b : Fin 512), j = ix2 a b := ⟨j 0, j 1, by funext i; fin_cases i <;> rfl⟩
    obtain ⟨b0, b1, b2, b3, b4, b5, b6, b7, b8, b9, b10, b11⟩ := blks V c t0_0
    rw [b0, b1, b2, b3, b4, b5, b6, b7, b8, b9, b10, b11]
    obtain rfl : a = 0 := Subsingleton.elim _ _
    apply out15_at
  exact congrFun h (ix2 0 k)

end Cert.KernelIdeal.Region0

end
-- ==== Proof.Entry.lean ====
/- The arrays that the regions find, over the arguments. -/
module

public import proofs.«01_k».proof.Proof.Region0
public import Idealize.ShloMosaic.Lib.KernelVsHost

@[expose] public section

set_option maxRecDepth 16384

noncomputable section

namespace Cert.KernelIdeal.Entry

open Idealize.ShloMosaic Idealize.ShloMosaic.TcCoe Idealize.SL.Sem
open Cert.KernelIdeal Cert.KernelIdeal.Gen
open Cert.Spec (Args)

variable (m : (ℓ : Loc nD τ sig) → Buf (Elt Ideal) ℓ) (ρ : Dev nD → PrngReg) (c : Dev nD)

/-- The arguments of one device. -/
def args : Args where
  C := m ((c.tc : Thread nD τ).loc main_arg0)
  E := m ((c.tc : Thread nD τ).loc main_arg1)
  Wq := m ((c.tc : Thread nD τ).loc main_arg2)
  bq := m ((c.tc : Thread nD τ).loc main_arg3)
  Wk := m ((c.tc : Thread nD τ).loc main_arg4)
  bk := m ((c.tc : Thread nD τ).loc main_arg5)
  Wv := m ((c.tc : Thread nD τ).loc main_arg6)
  bv := m ((c.tc : Thread nD τ).loc main_arg7)
  Wo := m ((c.tc : Thread nD τ).loc main_arg8)
  bo := m ((c.tc : Thread nD τ).loc main_arg9)
  Wc := m ((c.tc : Thread nD τ).loc main_arg10)
  bc := m ((c.tc : Thread nD τ).loc main_arg11)
  g := m ((c.tc : Thread nD τ).loc main_arg12)
  b := m ((c.tc : Thread nD τ).loc main_arg13)

/-- The context with zero rows below it. -/
theorem v0_at (i : Fin 2048) (j : Fin 512) :
    V3 m ρ c main_v0 (ix2 i j) = if h : i.val < 2000 then (args m c).C (ix2 ⟨i.val, h⟩ j) else 0 := by
  refine (congrFun (W3_of m ρ c main_v0 (by decide)) _).trans ?_
  show StableHlo.after hostOps0_1 (W1 m ρ c) (Proc.devRef .tc main_v0) (ix2 i j) = _
  unfold hostOps0_1
  after_results
  show pad S2048x512 ![0, 0] ![48, 0] ![0, 0] (args m c).C (sitofp (F := Ideal) .f32 (constantI S_ 32 0#32))
    pads_S2000x512_S2048x512_0480_000 h_S_ (ix2 i j) = _
  by_cases h : i.val < 2000
  · rw [dif_pos h]
    exact pad_apply_of_inside _ _ _ _ _ _ _ _ (ix2 (⟨i.val, h⟩ : Fin 2000) j) (fun a => by fin_cases a <;> simp)
  · rw [dif_neg h]
    refine (pad_apply_of_not_inside _ _ _ _ _ _ _ _ (0 : Fin 2) (by simp; omega)).trans ?_
    pointwise
    show (((0#32 : BitVec 32).toInt : ℝ) : EReal) = 0
    simp

/-- A transposed matrix. -/
theorem transpose_at (x : FVec Ideal S512x512 .f32) (k j : Fin 512) :
    transpose S512x512 [1, 0] x transposes_S512x512_S512x512_1_0 (ix2 k j) = x (ix2 j k) := by
  pointwise

/-- A vector as a one-row matrix. -/
theorem row_at (x : FVec Ideal S512 .f32) (k : Fin 512) : shapeCast S1x512 x shapeCasts_S512_S1x512 (ix2 0 k) = x (ix1 k) := by
  pointwise

theorem v7_at (i : Fin 1024) (j : Fin 512) : V3 m ρ c main_v7 (ix2 i j) = (args m c).E (ix3 0 i j) := by
  show StableHlo.after hostOps0_2 (W2 m ρ c) (Proc.devRef .tc main_v7) (ix2 i j) = _
  unfold hostOps0_2
  after_results
  show shapeCast S1024x512 (extractStridedSlice S1x1024x512 ![0, 0, 0] (args m c).E slices_S8x1024x512_S1x1024x512_0_0_0)
    shapeCasts_S1x1024x512_S1024x512 (ix2 i j) = _
  pointwise

theorem v1_at (k j : Fin 512) : V3 m ρ c main_v1 (ix2 k j) = (args m c).Wq (ix2 j k) := by
  show StableHlo.after hostOps0_2 (W2 m ρ c) (Proc.devRef .tc main_v1) (ix2 k j) = _
  unfold hostOps0_2
  after_results
  exact transpose_at (args m c).Wq k j

theorem v2_at (k j : Fin 512) : V3 m ρ c main_v2 (ix2 k j) = (args m c).Wk (ix2 j k) := by
  show StableHlo.after hostOps0_2 (W2 m ρ c) (Proc.devRef .tc main_v2) (ix2 k j) = _
  unfold hostOps0_2
  after_results
  exact transpose_at (args m c).Wk k j

theorem v3_at (k j : Fin 512) : V3 m ρ c main_v3 (ix2 k j) = (args m c).Wv (ix2 j k) := by
  show StableHlo.after hostOps0_2 (W2 m ρ c) (Proc.devRef .tc main_v3) (ix2 k j) = _
  unfold hostOps0_2
  after_results
  exact transpose_at (args m c).Wv k j

theorem v4_at (k j : Fin 512) : V3 m ρ c main_v4 (ix2 k j) = (args m c).Wo (ix2 j k) := by
  show StableHlo.after hostOps0_2 (W2 m ρ c) (Proc.devRef .tc main_v4) (ix2 k j) = _
  unfold hostOps0_2
  after_results
  exact transpose_at (args m c).Wo k j

theorem v5_at (k j : Fin 512) : V3 m ρ c main_v5 (ix2 k j) = (args m c).Wc (ix2 j k) := by
  show StableHlo.after hostOps0_2 (W2 m ρ c) (Proc.devRef .tc main_v5) (ix2 k j) = _
  unfold hostOps0_2
  after_results
  exact transpose_at (args m c).Wc k j

theorem v8_at (k : Fin 512) : V3 m ρ c main_v8 (ix2 0 k) = (args m c).bq (ix1 k) := by
  show StableHlo.after hostOps0_2 (W2 m ρ c) (Proc.devRef .tc main_v8) (ix2 0 k) = _
  unfold hostOps0_2
  after_results
  exact row_at (args m c).bq k

theorem v9_at (k : Fin 512) : V3 m ρ c main_v9 (ix2 0 k) = (args m c).bk (ix1 k) := by
  show StableHlo.after hostOps0_2 (W2 m ρ c) (Proc.devRef .tc main_v9) (ix2 0 k) = _
  unfold hostOps0_2
  after_results
  exact row_at (args m c).bk k

theorem v10_at (k : Fin 512) : V3 m ρ c main_v10 (ix2 0 k) = (args m c).bv (ix1 k) := by
  show StableHlo.after hostOps0_2 (W2 m ρ c) (Proc.devRef .tc main_v10) (ix2 0 k) = _
  unfold hostOps0_2
  after_results
  exact row_at (args m c).bv k

theorem v11_at (k : Fin 512) : V3 m ρ c main_v11 (ix2 0 k) = (args m c).bo (ix1 k) := by
  show StableHlo.after hostOps0_2 (W2 m ρ c) (Proc.devRef .tc main_v11) (ix2 0 k) = _
  unfold hostOps0_2
  after_results
  exact row_at (args m c).bo k

theorem v12_at (k : Fin 512) : V3 m ρ c main_v12 (ix2 0 k) = (args m c).bc (ix1 k) := by
  show StableHlo.after hostOps0_2 (W2 m ρ c) (Proc.devRef .tc main_v12) (ix2 0 k) = _
  unfold hostOps0_2
  after_results
  exact row_at (args m c).bc k

theorem v14_at (k : Fin 512) : V5 m ρ c main_v14 (ix2 0 k) = (args m c).bq (ix1 k) := by
  show StableHlo.after hostOps1 (W4 m ρ c) (Proc.devRef .tc main_v14) (ix2 0 k) = _
  unfold hostOps1
  after_results
  rw [W4_args m ρ c main_arg3 (by decide)]
  exact row_at (args m c).bq k

theorem v15_at (k : Fin 512) : V5 m ρ c main_v15 (ix2 0 k) = (args m c).g (ix1 k) := by
  show StableHlo.after hostOps1 (W4 m ρ c) (Proc.devRef .tc main_v15) (ix2 0 k) = _
  unfold hostOps1
  after_results
  rw [W4_args m ρ c main_arg12 (by decide)]
  exact row_at (args m c).g k

theorem v16_at (k : Fin 512) : V5 m ρ c main_v16 (ix2 0 k) = (args m c).b (ix1 k) := by
  show StableHlo.after hostOps1 (W4 m ρ c) (Proc.devRef .tc main_v16) (ix2 0 k) = _
  unfold hostOps1
  after_results
  rw [W4_args m ρ c main_arg13 (by decide)]
  exact row_at (args m c).b k

/-- The encoder's output at the second region. -/
theorem arg1_eq : V5 m ρ c main_arg1 = (args m c).E := W5_args m ρ c main_arg1 (by decide)

/-- The transposed query matrix at the second region. -/
theorem v1_at' (k j : Fin 512) : V5 m ρ c main_v1 (ix2 k j) = (args m c).Wq (ix2 j k) :=
  (congrFun ((W5_of m ρ c main_v1 (by decide)).trans (W4_of m ρ c main_v1 (by decide))) _).trans (v1_at m ρ c k j)

theorem v13_0_eq : V5 m ρ c main_v13_0 = (dat0 (F := Ideal) (V3 m ρ) c).arrAt 12 cfg0.N :=
  (W5_of m ρ c main_v13_0 (by decide)).trans (W4_arr m ρ c 12)

theorem v13_1_eq : V5 m ρ c main_v13_1 = (dat0 (F := Ideal) (V3 m ρ) c).arrAt 13 cfg0.N :=
  (W5_of m ρ c main_v13_1 (by decide)).trans (W4_arr m ρ c 13)

theorem v13_2_eq : V5 m ρ c main_v13_2 = (dat0 (F := Ideal) (V3 m ρ) c).arrAt 14 cfg0.N :=
  (W5_of m ρ c main_v13_2 (by decide)).trans (W4_arr m ρ c 14)

theorem v13_3_eq : V5 m ρ c main_v13_3 = (dat0 (F := Ideal) (V3 m ρ) c).arrAt 15 cfg0.N :=
  (W5_of m ρ c main_v13_3 (by decide)).trans (W4_arr m ρ c 15)

end Cert.KernelIdeal.Entry

end
-- ==== Proof.Picks.lean ====
/- The rows the layer picks: the hundred and one context rows with the greatest total attention, the lower row first on ties. -/
module

public import proofs.«01_k».proof.Proof.Spec
public import proofs.«01_k».proof.Proof.Sel

@[expose] public section

noncomputable section

namespace Cert.Spec.Args

open Idealize.ShloMosaic Cert

variable (A : Args)

/-- The total attention on the padded lanes: nothing beyond the context's rows. -/
def lanes (i : Fin 2048) : EReal := if h : i.val < 2000 then A.cs ⟨i.val, h⟩ else 0

variable {A} (hA : A.Ok)
include hA

theorem lanes_nonneg (i : Fin 2048) : 0 ≤ A.lanes i := by
  unfold lanes
  split
  · exact cs_nonneg hA _
  · exact le_refl _

theorem lanes_zero (i : Fin 2048) (h : 2000 ≤ i.val) : A.lanes i = 0 := dif_neg (by omega)

theorem sel_lt (k : Fin 101) : (Sel.sel A.lanes k.val).val < 2000 :=
  Sel.sel_lt (lanes_nonneg hA) (fun i hi => lanes_zero hA i hi) (by omega)

/-- Pick `k`. -/
def pick (k : Fin 101) : Fin 2000 := ⟨(Sel.sel A.lanes k.val).val, sel_lt hA k⟩

/-- The stable descending sort of the total attention holds pick `k` at place `k`. -/
theorem sorted_pick (k : Fin 101) :
    sortedFrom (Sel.greater A.cs) (k.castLE (by decide : 101 ≤ 2000)) = pick hA k :=
  Sel.sortedFrom_sel (lanes_nonneg hA) (fun i hi => lanes_zero hA i hi) A.cs (fun i => by
    rw [lanes]
    rw [dif_pos (show (Fin.castLE (by decide : 2000 ≤ 2048) i).val < 2000 from i.isLt)]
    rfl) k

end Cert.Spec.Args

end
-- ==== Proof.Combine.lean ====
/- The kernel's result array over its arguments: the layer's result on the picked rows. -/
module

public import proofs.«01_k».proof.Proof.Entry
public import proofs.«01_k».proof.Proof.Picks

@[expose] public section

set_option maxRecDepth 16384

noncomputable section

namespace Cert.KernelIdeal.Combine

open Idealize.ShloMosaic Idealize.ShloMosaic.TcCoe Idealize.SL.Sem
open Cert.KernelIdeal Cert.KernelIdeal.Gen Cert.KernelIdeal.Entry Cert.KernelIdeal.Pure
open Cert.Spec (Args lin score sm smr norm)

/-- A product with a transposed matrix plus a one-row offset is the linear map. -/
theorem lin_of (x x' : Fin 512 → EReal) (W W' : FVec Ideal S512x512 .f32) (o : FVec Ideal S1x512 .f32) (o' : FVec Ideal S512 .f32)
    (hx : ∀ k, x k = x' k) (hW : ∀ k j, W (ix2 k j) = W' (ix2 j k)) (ho : ∀ k, o (ix2 0 k) = o' (ix1 k)) (j : Fin 512) :
    (∑ k, x k * W (ix2 k j)) + o (ix2 0 j) = lin x' W' o' j := by
  unfold lin
  rw [ho, Finset.sum_congr rfl fun k _ => congrArg₂ (· * ·) (hx k) (hW k j)]

/-- A picked row under the first region's linear map. -/
theorem lk_of (f : Fin 2048 → EReal) (X : FVec Ideal S2048x512 .f32) (x' : Fin 512 → EReal) (W W' : FVec Ideal S512x512 .f32)
    (o : FVec Ideal S1x512 .f32) (o' : FVec Ideal S512 .f32) (r : Fin 128) (hx : ∀ k, Region0.pk f X r k = x' k)
    (hW : ∀ k j, W (ix2 k j) = W' (ix2 j k)) (ho : ∀ k, o (ix2 0 k) = o' (ix1 k)) (j : Fin 512) :
    Region0.lk f X W o r j = lin x' W' o' j :=
  lin_of _ x' W W' o o' hx hW ho j

/-- The column sums over queries and keys that are the layer's: the total attention on the context's lanes. -/
theorem w_of {A : Args} (hA : A.Ok) (Q : FVec Ideal S1024x512 .f32) (K : FVec Ideal S2048x512 .f32)
    (hQ : ∀ t, (fun j => Q (ix2 t j)) = A.q 0 t) (hK : ∀ (n : Fin 2048) (h : n.val < 2000), (fun j => K (ix2 n j)) = A.key ⟨n.val, h⟩) :
    Region0.w Q K = A.lanes := by
  funext i
  have e : ∀ (h : Fin 4) (t : Fin 1024),
      smr (fun n : Fin 2048 => score (fun j => Q (ix2 t j)) (fun j => K (ix2 n j)) h + k0_pay6 (F := Ideal) (ix2 0 n)) i
      = if h' : i.val < 2000 then A.att t h ⟨i.val, h'⟩ else 0 := fun h t => by
    refine Spec.smr_pad (by decide) (by decide) _ _ (fun n hn => ?_) (fun n => ?_) (fun n => Args.isReal_scores hA 0 t n h) i
    · rw [mask_at, if_neg (by omega), EReal.add_bot]
    · have hn : (n.castLE (by decide : 2000 ≤ 2048)).val < 2000 := n.isLt
      rw [mask_at, if_pos hn, add_zero, hQ, hK _ hn]
      rfl
  unfold Region0.w
  rw [Finset.sum_congr rfl fun h _ => Finset.sum_congr rfl fun t _ => e h t, Args.lanes]
  by_cases hi : i.val < 2000
  · simp only [dif_pos hi, Args.cs]
  · simp only [dif_neg hi, Finset.sum_const_zero]

/-- A picked row of the padded context. -/
theorem pk_of {A : Args} (hA : A.Ok) (X : FVec Ideal S2048x512 .f32)
    (hX : ∀ (i : Fin 2048) (j : Fin 512), X (ix2 i j) = if h : i.val < 2000 then A.C (ix2 ⟨i.val, h⟩ j) else 0)
    (r : Fin 128) (hr : r.val < 101) (k : Fin 512) :
    Region0.pk A.lanes X r k = A.C (ix2 (Args.pick hA ⟨r.val, hr⟩) k) := by
  unfold Region0.pk Region0.pm
  rw [Finset.sum_eq_single (Sel.sel A.lanes r.val) (fun i _ hi => by rw [if_neg (fun h => hi h.2), zero_mul])
    (fun h => absurd (Finset.mem_univ _) h), if_pos ⟨hr, rfl⟩, one_mul, hX, dif_pos (Args.sel_lt hA ⟨r.val, hr⟩)]
  rfl

/-- The attention's output over the picked rows' keys and values. -/
theorem O_of {A : Args} (hA : A.Ok) (Q : FVec Ideal S1024x512 .f32) (K W : FVec Ideal S128x512 .f32) (b : Fin 8) (t : Fin 1024)
    (hQ : (fun j => Q (ix2 t j)) = A.q b t)
    (hK : ∀ (n : Fin 128) (h : n.val < 101), (fun j => K (ix2 n j)) = A.key (Args.pick hA ⟨n.val, h⟩))
    (hW : ∀ (n : Fin 128) (h : n.val < 101), (fun j => W (ix2 n j)) = A.val (Args.pick hA ⟨n.val, h⟩)) (k : Fin 512) :
    Region1.O Q K W t k = A.o (Args.pick hA) b t k := by
  have e : ∀ n : Fin 128,
      smr (fun n : Fin 128 => score (fun j => Q (ix2 t j)) (fun j => K (ix2 n j)) ⟨k.val / 128, by omega⟩ + k1_pay4 (F := Ideal) (ix2 0 n)) n
      = if h' : n.val < 101 then A.att2 (Args.pick hA) b t ⟨k.val / 128, by omega⟩ ⟨n.val, h'⟩ else 0 := fun n => by
    refine Spec.smr_pad (by decide) (by decide) _ _ (fun n hn => ?_) (fun n => ?_) (fun n => Args.isReal_scores hA b t _ _) n
    · rw [k1_mask_at, if_neg (by omega), EReal.add_bot]
    · have hn : (n.castLE (by decide : 101 ≤ 128)).val < 101 := n.isLt
      rw [k1_mask_at, if_pos hn, add_zero, hQ, hK _ hn]
      rfl
  unfold Region1.O
  rw [Finset.sum_congr rfl fun n _ => congrArg (· * W (ix2 n k)) (e n), Spec.sum_pad (by decide : 101 ≤ 128) _ (fun n hn => by
    rw [dif_neg (by omega), zero_mul])]
  refine Finset.sum_congr rfl fun n _ => ?_
  have hn : (n.castLE (by decide : 101 ≤ 128)).val < 101 := n.isLt
  rw [dif_pos hn, congrFun (hW _ hn) k]
  rfl

/-- The second region's result over arrays that hold the layer's pieces. -/
theorem res_of {A : Args} (hA : A.Ok) (E : FVec Ideal S8x1024x512 .f32) (wq we : FVec Ideal S512x512 .f32) (K W : FVec Ideal S128x512 .f32)
    (bq be g bb : FVec Ideal S1x512 .f32) (hE : E = A.E) (hwq : ∀ k j, wq (ix2 k j) = A.Wq (ix2 j k)) (hbq : ∀ k, bq (ix2 0 k) = A.bq (ix1 k))
    (hK : ∀ (n : Fin 128) (h : n.val < 101), (fun j => K (ix2 n j)) = A.key (Args.pick hA ⟨n.val, h⟩))
    (hW : ∀ (n : Fin 128) (h : n.val < 101), (fun j => W (ix2 n j)) = A.val (Args.pick hA ⟨n.val, h⟩))
    (hwe : ∀ k i, we (ix2 k i) = ∑ j : Fin 512, A.Wo (ix2 j k) * A.Wc (ix2 i j))
    (hbe : ∀ i, be (ix2 0 i) = (∑ j : Fin 512, A.bo (ix1 j) * A.Wc (ix2 i j)) + A.bc (ix1 i))
    (hg : ∀ k, g (ix2 0 k) = A.g (ix1 k)) (hbb : ∀ k, bb (ix2 0 k) = A.b (ix1 k)) (b : Fin 8) (t : Fin 1024) (k : Fin 512) :
    Region1.res E wq we K W bq be g bb b t k = A.out (Args.pick hA) b t k := by
  have hQ : (fun j => Region1.Q E wq bq b (ix2 t j)) = A.q b t :=
    funext fun j => lin_of (fun k => E (ix3 b t k)) _ wq A.Wq bq A.bq (fun k => by rw [hE]) hwq hbq j
  have hx : (fun i => E (ix3 b t i) + ((∑ k, Region1.O (Region1.Q E wq bq b) K W t k * we (ix2 k i)) + be (ix2 0 i)))
      = A.x (Args.pick hA) b t := by
    funext i
    rw [Args.x_eq hA, hE, hbe]
    rw [Finset.sum_congr rfl fun k _ => congrArg₂ (· * ·) (O_of hA (Region1.Q A.E wq bq b) K W b t (by rw [← hE]; exact hQ) hK hW k) (hwe k i)]
  unfold Region1.res Args.out
  rw [hx, funext hg, funext hbb]

/-- The product of the two transposed output matrices. -/
theorem mm_of (A : Args) (x y : FVec Ideal S512x512 .f32) (hx : ∀ k j, x (ix2 k j) = A.Wo (ix2 j k))
    (hy : ∀ k j, y (ix2 k j) = A.Wc (ix2 j k)) (k i : Fin 512) :
    Region0.mm x y k i = ∑ j : Fin 512, A.Wo (ix2 j k) * A.Wc (ix2 i j) :=
  Finset.sum_congr rfl fun j _ => congrArg₂ (· * ·) (hx k j) (hy j i)

/-- The first output offset under the second output map. -/
theorem vm_of (A : Args) (x : FVec Ideal S1x512 .f32) (y : FVec Ideal S512x512 .f32) (b : FVec Ideal S1x512 .f32)
    (hx : ∀ k, x (ix2 0 k) = A.bo (ix1 k)) (hy : ∀ k j, y (ix2 k j) = A.Wc (ix2 j k)) (hb : ∀ k, b (ix2 0 k) = A.bc (ix1 k)) (i : Fin 512) :
    Region0.vm x y b i = (∑ j : Fin 512, A.bo (ix1 j) * A.Wc (ix2 i j)) + A.bc (ix1 i) :=
  congrArg₂ (· + ·) (Finset.sum_congr rfl fun j _ => congrArg₂ (· * ·) (hx j) (hy j i)) (hb i)

variable (m : (ℓ : Loc nD τ sig) → Buf (Elt Ideal) ℓ) (ρ : Dev nD → PrngReg) (c : Dev nD)

/-- The first region's queries are the first batch entry's. -/
theorem query_at (t : Fin 1024) :
    (fun j => k0_pay4 (F := Ideal) (V3 m ρ c main_v7) (V3 m ρ c main_v1) (V3 m ρ c main_v8) (ix2 t j)) = (args m c).q 0 t :=
  funext fun j => (pay4_at _ _ _ t j).trans
    (lin_of _ _ _ (args m c).Wq _ (args m c).bq (fun k => v7_at m ρ c t k) (fun k j => v1_at m ρ c k j) (fun k => v8_at m ρ c k) j)

/-- The first region's keys at a row of the context. -/
theorem key_at (n : Fin 2048) (h : n.val < 2000) :
    (fun j => k0_pay5 (F := Ideal) (V3 m ρ c main_v0) (V3 m ρ c main_v2) (V3 m ρ c main_v9) (ix2 n j)) = (args m c).key ⟨n.val, h⟩ :=
  funext fun j => (pay5_at _ _ _ n j).trans
    (lin_of _ _ _ (args m c).Wk _ (args m c).bk (fun k => (v0_at m ρ c n k).trans (dif_pos h)) (fun k j => v2_at m ρ c k j)
      (fun k => v9_at m ρ c k) j)

variable (hA : (args m c).Ok)
include hA

/-- The first region's column sums are the total attention. -/
theorem fw_eq : Region0.fw (V3 m ρ) c = (args m c).lanes := w_of hA _ _ (query_at m ρ c) (key_at m ρ c)

/-- The first region's first result: the picked rows' keys. -/
theorem key_pick (r : Fin 128) (hr : r.val < 101) :
    (fun k => V5 m ρ c main_v13_0 (ix2 r k)) = (args m c).key (Args.pick hA ⟨r.val, hr⟩) := by
  funext k
  rw [v13_0_eq]
  refine (Region0.final12 (V3 m ρ) c r k).trans ?_
  rw [fw_eq m ρ c hA]
  exact lk_of _ _ _ _ (args m c).Wk _ (args m c).bk r (pk_of hA _ (v0_at m ρ c) r hr) (v2_at m ρ c) (v9_at m ρ c) k

/-- The first region's second result: the picked rows' values. -/
theorem val_pick (r : Fin 128) (hr : r.val < 101) :
    (fun k => V5 m ρ c main_v13_1 (ix2 r k)) = (args m c).val (Args.pick hA ⟨r.val, hr⟩) := by
  funext k
  rw [v13_1_eq]
  refine (Region0.final13 (V3 m ρ) c r k).trans ?_
  rw [fw_eq m ρ c hA]
  exact lk_of _ _ _ _ (args m c).Wv _ (args m c).bv r (pk_of hA _ (v0_at m ρ c) r hr) (v3_at m ρ c) (v10_at m ρ c) k

omit hA in
/-- The joint output matrix. -/
theorem mat_at (k i : Fin 512) :
    V5 m ρ c main_v13_2 (ix2 k i) = ∑ j : Fin 512, (args m c).Wo (ix2 j k) * (args m c).Wc (ix2 i j) := by
  rw [v13_2_eq]
  refine (Region0.final14 (V3 m ρ) c k i).trans ?_
  exact mm_of (args m c) _ _ (v4_at m ρ c) (v5_at m ρ c) k i

omit hA in
/-- The joint output offset. -/
theorem off_at (i : Fin 512) :
    V5 m ρ c main_v13_3 (ix2 0 i) = (∑ j : Fin 512, (args m c).bo (ix1 j) * (args m c).Wc (ix2 i j)) + (args m c).bc (ix1 i) := by
  rw [v13_3_eq]
  refine (Region0.final15 (V3 m ρ) c i).trans ?_
  exact vm_of (args m c) _ _ _ (v11_at m ρ c) (v5_at m ρ c) (v12_at m ρ c) i

/-- The kernel's result array, at an index. -/
theorem result_at (b : Fin 8) (t : Fin 1024) (k : Fin 512) :
    (dat1 (F := Ideal) (V5 m ρ) c).arrAt 9 cfg1.N (ix3 b t k) = (args m c).out (Args.pick hA) b t k :=
  (Region1.final (V5 m ρ) c b t k).trans
    (res_of hA _ _ _ _ _ _ _ _ _ (arg1_eq m ρ c) (v1_at' m ρ c) (v14_at m ρ c) (key_pick m ρ c hA) (val_pick m ρ c hA) (mat_at m ρ c)
      (off_at m ρ c) (v15_at m ρ c) (v16_at m ρ c) b t k)

end Cert.KernelIdeal.Combine

end
-- ==== Proof.RefVal.lean ====
/- The reference's result over its arguments. -/
module

public import proofs.«01_k».proof.Proof.Gen.ReferenceIdeal.Run
public import proofs.«01_k».proof.Proof.Picks
public import Idealize.ShloMosaic.Lib.Pointwise

@[expose] public section

set_option maxRecDepth 16384

noncomputable section

namespace Cert.ReferenceIdeal.Values

open Idealize.ShloMosaic Idealize.ShloMosaic.TcCoe Idealize.SL.Sem
open Cert.ReferenceIdeal Cert.ReferenceIdeal.Value
open Cert.Spec (Args lin score sm mx ex norm hd SC)

theorem ninf : Ideal.ofBits .f32 0xFF800000#32 = ⊥ := by
  simp [Ideal.ofBits, Ideal.ieee]

/-- The greatest element along the last of four axes. -/
theorem max_at {n : Nat} (X : FVec Ideal ⟨4, ![8, 4, 1024, n]⟩ .f32) (init : S_.Idx → EReal)
    (hr : (⟨4, ![8, 4, 1024, n]⟩ : Shape).ReducesTo [3] S8x4x1024) (hu : 0 < S_.numel) (b : Fin 8) (h : Fin 4) (t : Fin 1024) :
    Host.reduce (FloatOps.maximumf (F := Ideal) (φ := .f32)) X init hr hu (ix3 b h t)
      = Finset.univ.fold max (init (Shape.Idx.first hu)) (fun k : Fin n => X (ix4 b h t k)) := by
  refine (Host.reduce_eq_fold (FloatOps.maximumf (F := Ideal) (φ := .f32)) X init hr hu (ix3 b h t)).trans ?_
  exact hr.fold_fiber_r4_a3 (ix3 b h t) (max : EReal → EReal → EReal) _ X

/-- The sum along the last of four axes. -/
theorem sum_at {n : Nat} (X : FVec Ideal ⟨4, ![8, 4, 1024, n]⟩ .f32)
    (hr : (⟨4, ![8, 4, 1024, n]⟩ : Shape).ReducesTo [3] S8x4x1024) (hu : 0 < S_.numel) (b : Fin 8) (h : Fin 4) (t : Fin 1024) :
    Host.reduceAdd X (constant S_ .f32 0x00000000#32) hr hu (ix3 b h t) = ∑ k : Fin n, X (ix4 b h t k) := by
  pointwise!

/-- The sum over the first two of three axes. -/
theorem sum2_at (X : FVec Ideal S4x1024x2000 .f32) (hr : S4x1024x2000.ReducesTo [0, 1] S2000) (hu : 0 < S_.numel) (n : Fin 2000) :
    Host.reduceAdd X (constant S_ .f32 0x00000000#32) hr hu (ix1 n) = ∑ h : Fin 4, ∑ t : Fin 1024, X (ix3 h t n) := by
  have hf : ∀ i : S4x1024x2000.Idx, hr.drop i = ix1 n ↔ ∃ k : Fin 4 × Fin 1024, ix3 k.1 k.2 n = i := fun i => by
    constructor
    · intro e
      refine ⟨(i 0, i 1), ?_⟩
      funext a
      apply Fin.ext
      match a with
      | ⟨0, _⟩ => rfl
      | ⟨1, _⟩ => rfl
      | ⟨2, _⟩ => exact (congrArg Fin.val (congrFun e 0)).symm
    · rintro ⟨k, rfl⟩
      funext b
      apply Fin.ext
      match b with
      | ⟨0, _⟩ => rfl
  show Ideal.ofBits .f32 0x00000000#32 + ∑ i ∈ Finset.univ.filter (fun i => hr.drop i = ix1 n), X i = _
  rw [Ideal.ofBits_zero, zero_add]
  refine (Finset.sum_filter_eq_sum_of_fiber _ (fun k : Fin 4 × Fin 1024 => ix3 k.1 k.2 n)
    (fun _ _ e => Prod.ext (congrFun e 0) (congrFun e 1)) hf X).trans ?_
  simp only [Fintype.sum_prod_type]

/-- The exponentials of a row along the last of four axes. -/
theorem exp_at {n : Nat} (X : FVec Ideal ⟨4, ![8, 4, 1024, n]⟩ .f32)
    (hr : (⟨4, ![8, 4, 1024, n]⟩ : Shape).ReducesTo [3] S8x4x1024) (hu : 0 < S_.numel)
    (h1 : S8x4x1024x1.BroadcastsInDim ⟨4, ![8, 4, 1024, n]⟩ ![0, 1, 2, 3]) (h2 : S8x4x1024.BroadcastsInDim S8x4x1024x1 ![0, 1, 2])
    (h3 : S_.BroadcastsInDim S8x4x1024 ![])
    (b : Fin 8) (h : Fin 4) (t : Fin 1024) (i : Fin n) :
    Host.exp (subf X (broadcastInDim ⟨4, ![8, 4, 1024, n]⟩ ![0, 1, 2, 3] h1 (broadcastInDim S8x4x1024x1 ![0, 1, 2] h2
      (maximumf (broadcastInDim S8x4x1024 ![] h3 (constant S_ .f32 0xFF800000#32)) (Host.reduce FloatOps.maximumf X (constant S_ .f32 0xFF800000#32) hr hu)))))
      (ix4 b h t i) = ex (fun k : Fin n => X (ix4 b h t k)) i := by
  have e : Host.reduce FloatOps.maximumf X (constant S_ .f32 0xFF800000#32) hr hu (ix3 b h t) = mx (fun k : Fin n => X (ix4 b h t k)) := by
    rw [max_at]
    show Finset.univ.fold max (Ideal.ofBits .f32 0xFF800000#32) _ = _
    rw [ninf, mx]
  generalize Host.reduce FloatOps.maximumf X (constant S_ .f32 0xFF800000#32) hr hu = M at *
  pointwise [e, ninf]
  rw [max_eq_right bot_le, ex]

/-- The softmax of a row along the last of four axes, of its exponentials. -/
theorem soft_at {n : Nat} (Y : FVec Ideal ⟨4, ![8, 4, 1024, n]⟩ .f32) (s : Fin n → EReal)
    (hr : (⟨4, ![8, 4, 1024, n]⟩ : Shape).ReducesTo [3] S8x4x1024) (hu : 0 < S_.numel)
    (h1 : S8x4x1024x1.BroadcastsInDim ⟨4, ![8, 4, 1024, n]⟩ ![0, 1, 2, 3]) (h2 : S8x4x1024.BroadcastsInDim S8x4x1024x1 ![0, 1, 2])
    (b : Fin 8) (h : Fin 4) (t : Fin 1024) (hs : ∀ i, Y (ix4 b h t i) = ex s i) (i : Fin n) :
    Host.divf Y (broadcastInDim ⟨4, ![8, 4, 1024, n]⟩ ![0, 1, 2, 3] h1 (broadcastInDim S8x4x1024x1 ![0, 1, 2] h2
      (Host.reduceAdd Y (constant S_ .f32 0x00000000#32) hr hu))) (ix4 b h t i) = sm s i := by
  have e : Host.reduceAdd Y (constant S_ .f32 0x00000000#32) hr hu (ix3 b h t) = ∑ k, ex s k := by
    rw [sum_at]
    exact Finset.sum_congr rfl fun k _ => hs k
  generalize Host.reduceAdd Y (constant S_ .f32 0x00000000#32) hr hu = M at *
  pointwise [e, hs, sm]

/-- The rows of a batch under a linear map. -/
theorem lin_1024 (X : FVec Ideal S8x1024x512 .f32) (W : FVec Ideal S512x512 .f32) (o : FVec Ideal S512 .f32) (b : Fin 8) (t : Fin 1024) (j : Fin 512) :
    addf (Host.dotGeneral dot_S8x1024x512_S512x512_S8x1024x512_2_0_01_1_n_n none X
      (transpose S512x512 [1, 0] W Gen.transposes_S512x512_S512x512_1_0)) (broadcastInDim S8x1024x512 ![0, 1, 2] Gen.bcast_S1x1x512_S8x1024x512_0_1_2
      (broadcastInDim S1x1x512 ![2] Gen.bcast_S512_S1x1x512_2 o)) (ix3 b t j)
      = lin (fun k => X (ix3 b t k)) W o j := by
  pointwise! [lin]

/-- The rows of a batch under a linear map, split into heads. -/
theorem heads_1024 (X : FVec Ideal S8x1024x512 .f32) (W : FVec Ideal S512x512 .f32) (o : FVec Ideal S512 .f32)
    (b : Fin 8) (h : Fin 4) (t : Fin 1024) (d : Fin 128) :
    transpose S8x4x1024x128 [0, 2, 1, 3] (shapeCast S8x1024x4x128 (addf (Host.dotGeneral dot_S8x1024x512_S512x512_S8x1024x512_2_0_01_1_n_n none X
      (transpose S512x512 [1, 0] W Gen.transposes_S512x512_S512x512_1_0)) (broadcastInDim S8x1024x512 ![0, 1, 2] Gen.bcast_S1x1x512_S8x1024x512_0_1_2
      (broadcastInDim S1x1x512 ![2] Gen.bcast_S512_S1x1x512_2 o)))
      Gen.shapeCasts_S8x1024x512_S8x1024x4x128) Gen.transposes_S8x1024x4x128_S8x4x1024x128_0_2_1_3 (ix4 b h t d)
      = lin (fun k => X (ix3 b t k)) W o (hd h d) := by
  pointwise! [lin, hd]

/-- The rows of a batch under a linear map, split into heads. -/
theorem heads_2000 (X : FVec Ideal S8x2000x512 .f32) (W : FVec Ideal S512x512 .f32) (o : FVec Ideal S512 .f32)
    (b : Fin 8) (h : Fin 4) (t : Fin 2000) (d : Fin 128) :
    transpose S8x4x2000x128 [0, 2, 1, 3] (shapeCast S8x2000x4x128 (addf (Host.dotGeneral dot_S8x2000x512_S512x512_S8x2000x512_2_0_01_1_n_n none X
      (transpose S512x512 [1, 0] W Gen.transposes_S512x512_S512x512_1_0)) (broadcastInDim S8x2000x512 ![0, 1, 2] Gen.bcast_S1x1x512_S8x2000x512_0_1_2
      (broadcastInDim S1x1x512 ![2] Gen.bcast_S512_S1x1x512_2 o)))
      Gen.shapeCasts_S8x2000x512_S8x2000x4x128) Gen.transposes_S8x2000x4x128_S8x4x2000x128_0_2_1_3 (ix4 b h t d)
      = lin (fun k => X (ix3 b t k)) W o (hd h d) := by
  pointwise! [lin, hd]

/-- The rows of a batch under a linear map, split into heads. -/
theorem heads_101 (X : FVec Ideal S8x101x512 .f32) (W : FVec Ideal S512x512 .f32) (o : FVec Ideal S512 .f32)
    (b : Fin 8) (h : Fin 4) (t : Fin 101) (d : Fin 128) :
    transpose S8x4x101x128 [0, 2, 1, 3] (shapeCast S8x101x4x128 (addf (Host.dotGeneral dot_S8x101x512_S512x512_S8x101x512_2_0_01_1_n_n none X
      (transpose S512x512 [1, 0] W Gen.transposes_S512x512_S512x512_1_0)) (broadcastInDim S8x101x512 ![0, 1, 2] Gen.bcast_S1x1x512_S8x101x512_0_1_2
      (broadcastInDim S1x1x512 ![2] Gen.bcast_S512_S1x1x512_2 o)))
      Gen.shapeCasts_S8x101x512_S8x101x4x128) Gen.transposes_S8x101x4x128_S8x4x101x128_0_2_1_3 (ix4 b h t d)
      = lin (fun k => X (ix3 b t k)) W o (hd h d) := by
  pointwise! [lin, hd]

/-- The scaled products of queries and keys, head by head. -/
theorem score_2000 (Q : FVec Ideal S8x4x1024x128 .f32) (K : FVec Ideal S8x4x2000x128 .f32) (q : Fin 512 → EReal) (k : Fin 2000 → Fin 512 → EReal)
    (b : Fin 8) (h : Fin 4) (t : Fin 1024) (hq : ∀ d, Q (ix4 b h t d) = q (hd h d)) (hk : ∀ n d, K (ix4 b h n d) = k n (hd h d)) (n : Fin 2000) :
    mulf (Host.dotGeneral dot_S8x4x1024x128_S8x4x2000x128_S8x4x1024x2000_3_3_2_2_01_01 none Q K)
      (broadcastInDim S8x4x1024x2000 ![] Gen.bcast_S_S8x4x1024x2000 (constant S_ .f32 0x3DB504F3#32)) (ix4 b h t n) = score q (k n) h := by
  pointwise! [score, SC, hq, hk]

/-- The scaled products of queries and keys, head by head. -/
theorem score_101 (Q : FVec Ideal S8x4x1024x128 .f32) (K : FVec Ideal S8x4x101x128 .f32) (q : Fin 512 → EReal) (k : Fin 101 → Fin 512 → EReal)
    (b : Fin 8) (h : Fin 4) (t : Fin 1024) (hq : ∀ d, Q (ix4 b h t d) = q (hd h d)) (hk : ∀ n d, K (ix4 b h n d) = k n (hd h d)) (n : Fin 101) :
    mulf (Host.dotGeneral dot_S8x4x1024x128_S8x4x101x128_S8x4x1024x101_3_3_2_2_01_01 none Q K)
      (broadcastInDim S8x4x1024x101 ![] Gen.bcast_S_S8x4x1024x101 (constant S_ .f32 0x3DB504F3#32)) (ix4 b h t n) = score q (k n) h := by
  pointwise! [score, SC, hq, hk]

/-- The first batch entry's attention, summed over heads and positions. -/
theorem total_at (Y : FVec Ideal S8x4x1024x2000 .f32) (n : Fin 2000) :
    Host.reduceAdd (shapeCast S4x1024x2000 (extractStridedSlice S1x4x1024x2000 ![0, 0, 0, 0] Y Gen.slices_S8x4x1024x2000_S1x4x1024x2000_0_0_0_0)
      Gen.shapeCasts_S1x4x1024x2000_S4x1024x2000) (constant S_ .f32 0x00000000#32) Gen.reducesTo_S4x1024x2000_S2000_d0_1 Gen.h_S_ (ix1 n)
      = ∑ h : Fin 4, ∑ t : Fin 1024, Y (ix4 0 h t n) := by
  rw [sum2_at]
  refine Finset.sum_congr rfl fun h _ => Finset.sum_congr rfl fun t _ => ?_
  pointwise

/-- The index at place `k` of the descending sort. -/
theorem top_at {n p : Nat} (hp : p ≤ n) (x : FVec Ideal ⟨1, ![n]⟩ .f32) (k : Fin p) (hf : (⟨1, ![n]⟩ : Shape).Slices (fun _ => 0) ⟨1, ![p]⟩) :
    (Host.topK ⟨1, ![p]⟩ 0 (FloatOps.cmpfTotal .gt) x hf).2 (ix1 k)
      = BitVec.ofNat 32 (sortedFrom (Sel.greater fun i => x (ix1 i)) (k.castLE hp)).val := by
  have ha : ∀ (j : (⟨1, ![n]⟩ : Shape).Idx) (i : Fin n), j.along (0 : Fin 1) i = ix1 i := fun j i => by
    funext a
    obtain rfl : a = 0 := Subsingleton.elim _ _
    exact Function.update_self ..
  have hc : (fun i i' : Fin n => FloatOps.cmpfTotal (F := Ideal) (φ := .f32) .gt (x (ix1 i)) (x (ix1 i')) == 1#1) = Sel.greater fun i => x (ix1 i) := by
    funext i i'
    rw [Ideal.cmpfTotal_def]
    show (BitVec.ofBool (decide (x (ix1 i) > x (ix1 i'))) == 1#1) = decide (x (ix1 i') < x (ix1 i))
    by_cases hlt : x (ix1 i') < x (ix1 i) <;> simp [hlt]
  have hv : ∀ v : IVec ⟨1, ![n]⟩ 32, extractStridedSlice ⟨1, ![p]⟩ (fun _ => 0) v hf (ix1 k) = v (ix1 (k.castLE hp)) := fun v => by
    unfold extractStridedSlice
    refine congrArg v (funext fun a => Fin.ext ?_)
    obtain rfl : a = 0 := Subsingleton.elim _ _
    exact Nat.zero_add _
  have hs : ∀ (cmp : Ideal .f32 × BitVec 32 → Ideal .f32 × BitVec 32 → BitVec 1) (y : IVec ⟨1, ![n]⟩ 32) (j : Fin n),
      (Host.sort2 ⟨1, ![n]⟩ 0 cmp x y).2 (ix1 j)
        = y (ix1 (sortedFrom (fun i i' => cmp (x (ix1 i), y (ix1 i)) (x (ix1 i'), y (ix1 i')) == 1#1) j)) := fun cmp y j => by
    unfold Host.sort2
    rw [dif_pos (show 0 < (⟨1, ![n]⟩ : Shape).rank from Nat.one_pos)]
    refine (congrArg y (ha _ _)).trans ?_
    exact congrArg (fun c => y (ix1 (sortedFrom c j))) (funext fun i => funext fun i' =>
      congrArg₂ (fun a a' => cmp (x a, y a) (x a', y a') == 1#1) (ha _ i) (ha _ i'))
  unfold Host.topK
  dsimp only
  rw [hv, hs]
  rw [dif_pos (show 0 < (⟨1, ![n]⟩ : Shape).rank from Nat.one_pos)]
  exact congrArg (fun c => BitVec.ofNat 32 (sortedFrom c (k.castLE hp)).val) hc

/-- The gather of context rows, at an index. -/
theorem gather_at (x : FVec Ideal S8x2000x512 .f32) (idx : IVec S101x1 32) (b : Fin 8) (r : Fin 101) (j : Fin 512) :
    Host.gather gather_S8x2000x512_S101x1_S8x101x512_02_1_n_n_1_1_81512 x idx (ix3 b r j)
      = x (ix3 b ⟨min (idx (ix2 r 0)).toInt.toNat 1999, by omega⟩ j) := by
  unfold Host.gather
  refine congrArg x (funext fun a => Fin.ext ?_)
  have hsi : ∀ i, gather_S8x2000x512_S101x1_S8x101x512_02_1_n_n_1_1_81512.siIdx (ix3 b r j) i = ix2 r 0 := fun i => by
    funext a
    apply Fin.ext
    match a with
    | ⟨0, _⟩ => rfl
    | ⟨1, _⟩ =>
      have := i.isLt
      exact Nat.lt_one_iff.mp (show i.val < 1 from i.isLt)
  match a with
  | ⟨0, _⟩ => exact (Nat.zero_add _)
  | ⟨1, _⟩ =>
    show GatherDims.start _ (ix3 b r j) idx 1 + 0 + 0 = _
    unfold GatherDims.start
    rw [dif_pos (show (1 : Fin 3) ∈ gather_S8x2000x512_S101x1_S8x101x512_02_1_n_n_1_1_81512.startIndexMap from List.mem_singleton.mpr rfl), hsi]
    rfl
  | ⟨2, _⟩ => exact (Nat.zero_add _)

/-- The mean of each row, as an array. -/
def means (X : FVec Ideal S8x1024x512 .f32) : FVec Ideal S8x1024x1 .f32 :=
  Host.divf (broadcastInDim S8x1024x1 ![0, 1] Gen.bcast_S8x1024_S8x1024x1_0_1 (Host.reduceAdd X (constant S_ .f32 0x00000000#32) Gen.reducesTo_S8x1024x512_S8x1024_d2 Gen.h_S_))
    (broadcastInDim S8x1024x1 ![] Gen.bcast_S_S8x1024x1 (constant S_ .f32 0x44000000#32))

theorem means_at (X : FVec Ideal S8x1024x512 .f32) (b : Fin 8) (t : Fin 1024) :
    means X (ix3 b t 0) = Spec.mean fun j => X (ix3 b t j) := by
  pointwise! [means, Spec.mean]

/-- Each row less its mean, as an array. -/
def centred (X : FVec Ideal S8x1024x512 .f32) : FVec Ideal S8x1024x512 .f32 :=
  subf X (broadcastInDim S8x1024x512 ![0, 1, 2] Gen.bcast_S8x1024x1_S8x1024x512_0_1_2 (means X))

theorem centred_at (X : FVec Ideal S8x1024x512 .f32) (b : Fin 8) (t : Fin 1024) (j : Fin 512) :
    centred X (ix3 b t j) = X (ix3 b t j) - Spec.mean fun j => X (ix3 b t j) := by
  have h := means_at X b t
  unfold centred
  generalize means X = M at *
  pointwise [h]

/-- The number of elements of a row, as the variance divides by it. -/
def count : FVec Ideal S_ .f32 := subf (constant S_ .f32 0x44000000#32) (sitofp .f32 (constantI S_ 32 0#32))

theorem count_eq : count = constant S_ .f32 0x44000000#32 := by
  funext i
  show Ideal.ofBits .f32 0x44000000#32 - (((0#32 : BitVec 32).toInt : ℝ) : EReal) = Ideal.ofBits .f32 0x44000000#32
  simp

theorem count_pos : cmpf .ogt count (constant S_ .f32 0x00000000#32) = fun _ => 1#1 := by
  funext i
  rw [count_eq]
  show BitVec.ofBool (decide (Ideal.ofBits .f32 0x44000000#32 > Ideal.ofBits .f32 0x00000000#32)) = 1#1
  have h : Ideal.ofBits .f32 0x44000000#32 > Ideal.ofBits .f32 0x00000000#32 := by
    simp [Ideal.ofBits, Ideal.ieee, -EReal.coe_mul]
  rw [decide_eq_true h]
  rfl

/-- The layer norm of each row of an array. -/
theorem norm_at (X : FVec Ideal S8x1024x512 .f32) (g o : FVec Ideal S512 .f32) (b : Fin 8) (t : Fin 1024) (j : Fin 512) :
    addf (mulf (mulf (centred X) (broadcastInDim S8x1024x512 ![0, 1, 2] Gen.bcast_S8x1024x1_S8x1024x512_0_1_2 (Host.rsqrt (addf
      (select (broadcastInDim S8x1024x1 ![] Gen.bcast_S_S8x1024x1 (cmpf .ogt count (constant S_ .f32 0x00000000#32)))
        (Host.divf (broadcastInDim S8x1024x1 ![0, 1] Gen.bcast_S8x1024_S8x1024x1_0_1 (Host.reduceAdd (mulf (centred X) (centred X)) (constant S_ .f32 0x00000000#32) Gen.reducesTo_S8x1024x512_S8x1024_d2 Gen.h_S_))
          (broadcastInDim S8x1024x1 ![] Gen.bcast_S_S8x1024x1 count))
        (broadcastInDim S8x1024x1 ![] Gen.bcast_S_S8x1024x1 (id (constant S_ .f32 0x7FC00000#32))))
      (broadcastInDim S8x1024x1 ![] Gen.bcast_S_S8x1024x1 (constant S_ .f32 0x3727C5AC#32))))))
      (broadcastInDim S8x1024x512 ![0, 1, 2] Gen.bcast_S1x1x512_S8x1024x512_0_1_2 (broadcastInDim S1x1x512 ![2] Gen.bcast_S512_S1x1x512_2 g)))
      (broadcastInDim S8x1024x512 ![0, 1, 2] Gen.bcast_S1x1x512_S8x1024x512_0_1_2 (broadcastInDim S1x1x512 ![2] Gen.bcast_S512_S1x1x512_2 o)) (ix3 b t j)
      = norm (fun i => X (ix3 b t i)) (fun i => g (ix1 i)) (fun i => o (ix1 i)) j := by
  rw [count_pos, count_eq]
  have h := centred_at X b t
  unfold Spec.norm
  rw [← h j]
  simp only [← h]
  generalize centred X = Y at *
  unfold Spec.mean
  have hw : ∀ x y : FVec Ideal S8x1024x1 .f32, select (broadcastInDim S8x1024x1 ![] Gen.bcast_S_S8x1024x1 (fun _ : S_.Idx => 1#1)) x y = x := fun x y => by
    funext i
    rfl
  rw [hw]
  pointwise!

end Cert.ReferenceIdeal.Values

end
-- ==== Proof.RefOut.lean ====
/- The reference's result over its arguments: the layer's result on the picked rows. -/
module

public import proofs.«01_k».proof.Proof.RefVal
public import Idealize.ShloMosaic.Lib.WordCmp

@[expose] public section

set_option maxRecDepth 16384

noncomputable section

namespace Cert.ReferenceIdeal.Values

open Idealize.ShloMosaic Idealize.ShloMosaic.TcCoe Idealize.ShloMosaic.StableHlo Idealize.SL.Sem
open Cert.ReferenceIdeal Cert.ReferenceIdeal.Value
open Cert.Spec (Args lin score sm mx ex hd SC)

/-- The heads' outputs side by side. -/
theorem merge_at (P : FVec Ideal S8x4x1024x101 .f32) (K : FVec Ideal S8x4x101x128 .f32) (b : Fin 8) (t : Fin 1024) (j : Fin 512) :
    shapeCast S8x1024x512 (transpose S8x1024x4x128 [0, 2, 1, 3] (Host.dotGeneral dot_S8x4x1024x101_S8x4x101x128_S8x4x1024x128_3_2_2_3_01_01 none P K)
      Gen.transposes_S8x4x1024x128_S8x1024x4x128_0_2_1_3) Gen.shapeCasts_S8x1024x4x128_S8x1024x512 (ix3 b t j)
      = ∑ r : Fin 101, P (ix4 b ⟨j.val / 128, by omega⟩ t r) * K (ix4 b ⟨j.val / 128, by omega⟩ r ⟨j.val % 128, by omega⟩) := by
  pointwise!

/-- The residual sum with the second output map scaled by one. -/
theorem resid_at (E Y : FVec Ideal S8x1024x512 .f32) (b : Fin 8) (t : Fin 1024) (j : Fin 512) :
    addf E (mulf Y (broadcastInDim S8x1024x512 ![] Gen.bcast_S_S8x1024x512 (constant S_ .f32 0x3F800000#32))) (ix3 b t j)
      = E (ix3 b t j) + Y (ix3 b t j) := by
  pointwise!

/-- A picked index is a row number, so wrapping a negative index leaves it. -/
theorem wrap_at (i : IVec S101 32) (r : Fin 101) (p : Fin 2000) (h : i (ix1 r) = BitVec.ofNat 32 p.val) :
    broadcastInDim S101x1 ![0] Gen.bcast_S101_S101x1_0 (select (cmpi .slt i (broadcastInDim S101 ![] Gen.bcast_S_S101 (constantI S_ 32 0#32)))
      (addi i (broadcastInDim S101 ![] Gen.bcast_S_S101 (constantI S_ 32 2000#32))) i) (ix2 r 0) = BitVec.ofNat 32 p.val := by
  pointwise [h]
  have hc : IntOp.cmpi .slt (BitVec.ofNat 32 p.val) 0#32 = BitVec.ofBool (decide (p.val < 0)) :=
    WordCmp.cmpi_slt_ofNat (by omega) (by omega)
  rw [hc]
  simp [Scalar.select]

variable (V : Valuation τ sig (Elt Ideal))

/-- The arguments, of a device's contents. -/
def args : Args where
  C := V (Proc.devRef .tc main_arg0)
  E := V (Proc.devRef .tc main_arg1)
  Wq := V (Proc.devRef .tc main_arg2)
  bq := V (Proc.devRef .tc main_arg3)
  Wk := V (Proc.devRef .tc main_arg4)
  bk := V (Proc.devRef .tc main_arg5)
  Wv := V (Proc.devRef .tc main_arg6)
  bv := V (Proc.devRef .tc main_arg7)
  Wo := V (Proc.devRef .tc main_arg8)
  bo := V (Proc.devRef .tc main_arg9)
  Wc := V (Proc.devRef .tc main_arg10)
  bc := V (Proc.devRef .tc main_arg11)
  g := V (Proc.devRef .tc main_arg12)
  b := V (Proc.devRef .tc main_arg13)

/-- The batched context at an index. -/
theorem context_at (b : Fin 8) (n : Fin 2000) (j : Fin 512) : res_main_v0 (F := Ideal) V (ix3 b n j) = (args V).C (ix2 n j) := by
  show broadcastInDim S8x2000x512 ![1, 2] Gen.bcast_S2000x512_S8x2000x512_1_2 (args V).C (ix3 b n j) = _
  pointwise

/-- The queries at an index. -/
theorem query_at (b : Fin 8) (h : Fin 4) (t : Fin 1024) (d : Fin 128) : res_main_v7 (F := Ideal) V (ix4 b h t d) = (args V).q b t (hd h d) :=
  heads_1024 (args V).E (args V).Wq (args V).bq b h t d

/-- The scores over the whole context at an index. -/
theorem scores_at (b : Fin 8) (h : Fin 4) (t : Fin 1024) (n : Fin 2000) :
    res_main_v17 (F := Ideal) V (ix4 b h t n) = score ((args V).q b t) ((args V).key n) h :=
  score_2000 (res_main_v7 (F := Ideal) V) _ ((args V).q b t) (args V).key b h t (query_at V b h t)
    (fun n d => (heads_2000 (res_main_v0 (F := Ideal) V) (args V).Wk (args V).bk b h n d).trans
      (congrArg (fun x => lin x (args V).Wk (args V).bk (hd h d)) (funext fun k => context_at V b n k))) n

/-- The exponentials of the scores. -/
theorem exps_at (b : Fin 8) (h : Fin 4) (t : Fin 1024) (n : Fin 2000) :
    res_main_v24 (F := Ideal) V (ix4 b h t n) = ex (fun n => score ((args V).q b t) ((args V).key n) h) n :=
  (exp_at (res_main_v17 (F := Ideal) V) _ _ _ _ _ b h t n).trans (congrArg (fun s => ex s n) (funext fun k => scores_at V b h t k))

/-- The total attention of a context row. -/
theorem total_attention (n : Fin 2000) : res_main_v31 (F := Ideal) V (ix1 n) = (args V).cs n :=
  (total_at _ n).trans (Finset.sum_congr rfl fun h _ => Finset.sum_congr rfl fun t _ =>
    soft_at (res_main_v24 (F := Ideal) V) _ _ _ _ _ 0 h t (exps_at V 0 h t) n)

variable (hA : (args V).Ok)
include hA

/-- The picked indices. -/
theorem index_at (r : Fin 101) : res_main_indices (F := Ideal) V (ix1 r) = BitVec.ofNat 32 (Args.pick hA r).val := by
  refine (top_at (by decide : 101 ≤ 2000) (res_main_v31 (F := Ideal) V) r _).trans ?_
  rw [← Args.sorted_pick hA r]
  exact congrArg (fun f => BitVec.ofNat 32 (sortedFrom (Sel.greater f) (r.castLE (by decide : 101 ≤ 2000))).val) (funext (total_attention V))

/-- The picked context rows. -/
theorem picked_at (b : Fin 8) (r : Fin 101) (j : Fin 512) :
    res_main_v38 (F := Ideal) V (ix3 b r j) = (args V).C (ix2 (Args.pick hA r) j) := by
  have hw := wrap_at (res_main_indices (F := Ideal) V) r (Args.pick hA r) (index_at V hA r)
  refine (gather_at (res_main_v0 (F := Ideal) V) _ b r j).trans ?_
  refine (context_at V b _ j).trans ?_
  refine congrArg (fun n => (args V).C (ix2 n j)) (Fin.ext ?_)
  show min (BitVec.toInt _).toNat 1999 = _
  rw [hw]
  have hp := (Args.pick hA r).isLt
  have e : (BitVec.ofNat 32 (Args.pick hA r).val).toInt = ((Args.pick hA r).val : Int) := by
    rw [BitVec.toInt_eq_toNat_cond, BitVec.toNat_ofNat, Nat.mod_eq_of_lt (by omega), if_pos (by omega)]
  rw [e, Int.toNat_natCast]
  omega

/-- The scores over the picked rows. -/
theorem scores2_at (b : Fin 8) (h : Fin 4) (t : Fin 1024) (r : Fin 101) :
    res_main_v55 (F := Ideal) V (ix4 b h t r) = score ((args V).q b t) ((args V).key (Args.pick hA r)) h :=
  score_101 (res_main_v7 (F := Ideal) V) _ ((args V).q b t) (fun r => (args V).key (Args.pick hA r)) b h t (query_at V b h t)
    (fun r d => (heads_101 (res_main_v38 (F := Ideal) V) (args V).Wk (args V).bk b h r d).trans
      (congrArg (fun x => lin x (args V).Wk (args V).bk (hd h d)) (funext fun k => picked_at V hA b r k))) r

/-- The exponentials of those scores. -/
theorem exps2_at (b : Fin 8) (h : Fin 4) (t : Fin 1024) (r : Fin 101) :
    res_main_v62 (F := Ideal) V (ix4 b h t r) = ex (fun r => score ((args V).q b t) ((args V).key (Args.pick hA r)) h) r :=
  (exp_at (res_main_v55 (F := Ideal) V) _ _ _ _ _ b h t r).trans (congrArg (fun s => ex s r) (funext fun k => scores2_at V hA b h t k))

/-- The input of the layer norm. -/
theorem x_at (b : Fin 8) (t : Fin 1024) (j : Fin 512) : res_main_v82 (F := Ideal) V (ix3 b t j) = (args V).x (Args.pick hA) b t j := by
  refine (resid_at (args V).E _ b t j).trans (congrArg ((args V).E (ix3 b t j) + ·) ?_)
  refine (lin_1024 _ (args V).Wc (args V).bc b t j).trans (congrArg (fun x => lin x (args V).Wc (args V).bc j) (funext fun k => ?_))
  refine (lin_1024 _ (args V).Wo (args V).bo b t k).trans (congrArg (fun x => lin x (args V).Wo (args V).bo k) (funext fun i => ?_))
  refine (merge_at _ _ b t i).trans (Finset.sum_congr rfl fun r _ => congrArg₂ (· * ·)
    (soft_at (res_main_v62 (F := Ideal) V) _ _ _ _ _ b _ t (exps2_at V hA b _ t) r) ?_)
  refine (heads_101 (res_main_v38 (F := Ideal) V) (args V).Wv (args V).bv b _ r _).trans ?_
  rw [show hd (⟨i.val / 128, by omega⟩ : Fin 4) (⟨i.val % 128, by omega⟩ : Fin 128) = i from Fin.ext (Nat.div_add_mod' i.val 128)]
  exact congrArg (fun x => lin x (args V).Wv (args V).bv i) (funext fun k => picked_at V hA b r k)

/-- The reference's result at an index. -/
theorem result_at (b : Fin 8) (t : Fin 1024) (j : Fin 512) :
    val2 (F := Ideal) V (Proc.devRef .tc main_v100) (ix3 b t j) = (args V).out (Args.pick hA) b t j := by
  rw [val2_main_v100]
  refine (norm_at (res_main_v82 (F := Ideal) V) (args V).g (args V).b b t j).trans ?_
  exact congrArg (fun x => Spec.norm x _ _ j) (funext fun i => x_at V hA b t i)

end Cert.ReferenceIdeal.Values

end
-- ==== Proof.lean ====
/- The certificate's theorem, put together from the frames of the three programs, the naming of the mask and the
   equality of the kernel's result with the reference's over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Pre
public import proofs.«01_k».proof.Proof.Run
public import proofs.«01_k».proof.Proof.Combine
public import proofs.«01_k».proof.Proof.RefOut
public import Idealize.ShloMosaic.Adequacy
public import Idealize.ShloMosaic.Init
public import Idealize.ShloMosaic.Lib.Quiescent

@[expose] public section

noncomputable section

namespace Cert.Proof

open Idealize.ShloMosaic Idealize.ShloMosaic.TcCoe Idealize.ShloMosaic.StableHlo Idealize.SL.Sem

/-- The kernel as printed terminates without a fault, leaves its arguments as they were and every semaphore at zero. -/
theorem frame_kernel : Cert.quiescent_Kernel := fun m ρ _ => Cert.Kernel.Gen.frame m ρ

/-- The same of the kernel over the extended reals. -/
theorem frame_ideal : Cert.quiescent_KernelIdeal := fun m ρ _ => Cert.KernelIdeal.Gen.frame m ρ

/-- The same of the reference over the extended reals: its run leaves the arguments, and it names no semaphore. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The named mask is minus infinity over the extended reals. -/
theorem mask_named : Cert.preserves_Kernel_KernelIdeal :=
  IdealRules.named_const.statement Cert.KernelIdeal.κ "mask" .f32 0xF149F2CA#32 ⊥ rfl

/-- The precondition gives that the arguments the equality needs finite hold real numbers. -/
theorem args_ok [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal_finite_inputs m) (c : Dev Cert.KernelIdeal.nD) :
    (Cert.KernelIdeal.Entry.args m c).Ok := by
  obtain ⟨h0, h1, h2, h3, h4, h5, h6, h7, h8, h10⟩ := Cert.Pre.real_of_pre _ _ _ _ _ _ _ _ _ _ _ _ _ _ (h c)
  exact ⟨h0, h1, h2, h3, h4, h5, h6, h7, h8, h10⟩

/-- Over the extended reals, with the weights, biases and inputs that feed the attention finite, the kernel and
    the reference end with the same result, element by element. -/
theorem results_equal :
    Cert.algebraic_KernelIdeal_ReferenceIdeal_pre_finite_inputs (hKernelIdeal := Cert.KernelIdeal.Gen.facts)
      (hReferenceIdeal := Cert.ReferenceIdeal.Gen.facts) (hPre_finite_inputs := Cert.Pre.facts) := by
  haveI := Cert.Pre.facts
  intro m ρ m' ρ' hpre hagree
  refine ⟨_, Cert.KernelIdeal.Run.run (F := Ideal) m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Value.val2_main_v100 (launchContents m' c)).symm.trans ?_
  have hA := args_ok m hpre c
  obtain ⟨h0, h1, h2, h3, h4, h5, h6, h7, h8, h9, h10, h11, h12, h13⟩ := hagree c
  have e : Cert.ReferenceIdeal.Values.args (launchContents m' c) = Cert.KernelIdeal.Entry.args m c :=
    Cert.Spec.Args.ext h0 h1 h2 h3 h4 h5 h6 h7 h8 h9 h10 h11 h12 h13
  have hR : (Cert.ReferenceIdeal.Values.args (launchContents m' c)).Ok := e ▸ hA
  funext i
  obtain ⟨b, t, j, rfl⟩ : ∃ (b : Fin 8) (t : Fin 1024) (j : Fin 512), i = ix3 b t j := ⟨i 0, i 1, i 2, eq_ix3 i⟩
  refine (Cert.ReferenceIdeal.Values.result_at _ hR b t j).trans
    (Eq.trans ?_ (Cert.KernelIdeal.Combine.result_at m ρ c hA b t j).symm)
  generalize Cert.ReferenceIdeal.Values.args (launchContents m' c) = A at e hR
  subst e
  rfl

/-- Everything the certificate claims. -/
theorem claim : Cert.Claim :=
  ⟨Cert.Kernel.Gen.facts, Cert.KernelIdeal.Gen.facts, Cert.ReferenceIdeal.Gen.facts, Cert.Pre.facts,
    frame_kernel, frame_ideal, fun m ρ _ => frame_ideal m ρ trivial, frame_reference,
    fun m ρ _ => frame_reference m ρ trivial, mask_named, results_equal⟩

end Cert.Proof

end
